-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S4x6144x7168 : Shape := ⟨3, ![4, 6144, 7168]⟩
abbrev S4x6144x56 : Shape := ⟨3, ![4, 6144, 56]⟩
abbrev S7168x8192 : Shape := ⟨2, ![7168, 8192]⟩
abbrev S8192 : Shape := ⟨1, ![8192]⟩
abbrev S4x6144x8192 : Shape := ⟨3, ![4, 6144, 8192]⟩
abbrev S_ : Shape := ⟨0, ![]⟩

class Facts : Prop where
  bitsLt_bf16_f32 : FTy.bits .bf16 < FTy.bits .f32
  bcast_S_S8192 : S_.BroadcastsInDim S8192 (![] : Fin 0 → Fin S8192.rank)

variable [Facts]

def fn {F : FTy → Type} [FloatOps F] (main_arg0 : FVec F S4x6144x7168 .fp8e4m3) (main_arg1 : FVec F S4x6144x56 .f32) (main_arg2 : FVec F S7168x8192 .fp8e4m3) (main_arg3 : FVec F S8192 .f32) (main_arg4 : FVec F S4x6144x8192 .bf16) (main_arg5 : FVec F S8192 .bf16) : IVec S8192 1 :=
  let main_v0 : FVec F S8192 .f32 := (extf .f32 · bitsLt_bf16_f32) main_arg5
  let main_v1 : FVec F S8192 .f32 := Host.absf main_v0
  let main_cst : FVec F S_ .f32 := constant S_ .f32 0x7F7FC99E#32
  let main_v2 : FVec F S8192 .f32 := broadcastInDim S8192 ![] bcast_S_S8192 main_cst
  let main_v3 : IVec S8192 1 := cmpf .ole main_v1 main_v2
  main_v3
-- ==== Kernel.lean ====
abbrev S4x6144x7168 : Shape := ⟨3, ![4, 6144, 7168]⟩
abbrev S4x6144x56 : Shape := ⟨3, ![4, 6144, 56]⟩
abbrev S7168x8192 : Shape := ⟨2, ![7168, 8192]⟩
abbrev S8192 : Shape := ⟨1, ![8192]⟩
abbrev S4x6144x8192 : Shape := ⟨3, ![4, 6144, 8192]⟩
abbrev S24576x7168 : Shape := ⟨2, ![24576, 7168]⟩
abbrev S24576x56 : Shape := ⟨2, ![24576, 56]⟩
abbrev S1x8192 : Shape := ⟨2, ![1, 8192]⟩
abbrev S24576x8192 : Shape := ⟨2, ![24576, 8192]⟩
abbrev S24576x1 : Shape := ⟨2, ![24576, 1]⟩
abbrev S512x7168 : Shape := ⟨2, ![512, 7168]⟩
abbrev S512x56 : Shape := ⟨2, ![512, 56]⟩
abbrev S7168x512 : Shape := ⟨2, ![7168, 512]⟩
abbrev S1x512 : Shape := ⟨2, ![1, 512]⟩
abbrev S512x512 : Shape := ⟨2, ![512, 512]⟩
abbrev S512x8192 : Shape := ⟨2, ![512, 8192]⟩
abbrev S512x1 : Shape := ⟨2, ![512, 1]⟩
abbrev S512x128 : Shape := ⟨2, ![512, 128]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x255 : Shape := ⟨2, ![32, 255]⟩

abbrev nBuf : Space → Nat
  | .hbm => 14
  | .vmem => 18
  | .smem => 0
  | _ => 0

abbrev bufTy : (tb : Table) → Fin (tcTables nBuf tb) → BufTy
  | .hbm, ⟨0, _⟩ => ⟨S4x6144x7168, .fp8e4m3⟩
  | .hbm, ⟨1, _⟩ => ⟨S4x6144x56, .f32⟩
  | .hbm, ⟨2, _⟩ => ⟨S7168x8192, .fp8e4m3⟩
  | .hbm, ⟨3, _⟩ => ⟨S8192, .f32⟩
  | .hbm, ⟨4, _⟩ => ⟨S4x6144x8192, .bf16⟩
  | .hbm, ⟨5, _⟩ => ⟨S8192, .bf16⟩
  | .hbm, ⟨6, _⟩ => ⟨S24576x7168, .fp8e4m3⟩
  | .hbm, ⟨7, _⟩ => ⟨S24576x56, .f32⟩
  | .hbm, ⟨8, _⟩ => ⟨S1x8192, .f32⟩
  | .hbm, ⟨9, _⟩ => ⟨S24576x8192, .bf16⟩
  | .hbm, ⟨10, _⟩ => ⟨S1x8192, .bf16⟩
  | .hbm, ⟨11, _⟩ => ⟨S24576x8192, .bf16⟩
  | .hbm, ⟨12, _⟩ => ⟨S24576x8192, .fp8e4m3⟩
  | .hbm, ⟨13, _⟩ => ⟨S24576x1, .f32⟩
  | .local _ .vmem, ⟨0, _⟩ => ⟨S512x7168, .fp8e4m3⟩
  | .local _ .vmem, ⟨1, _⟩ => ⟨S512x7168, .fp8e4m3⟩
  | .local _ .vmem, ⟨2, _⟩ => ⟨S512x56, .f32⟩
  | .local _ .vmem, ⟨3, _⟩ => ⟨S512x56, .f32⟩
  | .local _ .vmem, ⟨4, _⟩ => ⟨S7168x512, .fp8e4m3⟩
  | .local _ .vmem, ⟨5, _⟩ => ⟨S7168x512, .fp8e4m3⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S1x8192, .bf16⟩
  | .local _ .vmem, ⟨11, _⟩ => ⟨S512x8192, .bf16⟩
  | .local _ .vmem, ⟨12, _⟩ => ⟨S512x8192, .bf16⟩
  | .local _ .vmem, ⟨13, _⟩ => ⟨S512x8192, .fp8e4m3⟩
  | .local _ .vmem, ⟨14, _⟩ => ⟨S512x8192, .fp8e4m3⟩
  | .local _ .vmem, ⟨15, _⟩ => ⟨S512x1, .f32⟩
  | .local _ .vmem, ⟨16, _⟩ => ⟨S512x1, .f32⟩
  | .local _ .vmem, ⟨17, _⟩ => ⟨S512x7168, .bf16⟩
  | _, _ => ⟨S4x6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![48, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let c0_8 : Index := 0#32
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  ![0, v17.toNat]
def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_9 : BitVec 32 := 0#32
  let v21 : BitVec 1 := Scalar.cmpi .ne v20 c0_i32_9
  v21

@[reducible] def k0_t1_loop : Scf.Loop 32 :=
  let c0_i32_10 : BitVec 32 := 0#32
  let c16_i32 : BitVec 32 := 16#32
  let v22 : BitVec 32 := Scalar.addi c0_i32_10 c16_i32
  let c1_i32 : BitVec 32 := 1#32
  ⟨c0_i32_10, v22, c1_i32⟩
def k0_mult2 (k0_t1 : Fin k0_t1_loop.trips) : BitVec 32 :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  v23
def k0_off2 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v26 : Index := Scalar.indexCast v24
  let c0_13 : Index := 0#32
  ![v26.toNat, 0]
def k0_off3 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v32 : Index := Scalar.indexCast v24
  let c128 : Index := 128#32
  ![v32.toNat, 128]
def k0_off4 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v38 : Index := Scalar.indexCast v24
  let c256 : Index := 256#32
  ![v38.toNat, 256]
def k0_off5 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v44 : Index := Scalar.indexCast v24
  let c384 : Index := 384#32
  ![v44.toNat, 384]
def k0_off6 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v50 : Index := Scalar.indexCast v24
  let c512 : Index := 512#32
  ![v50.toNat, 512]
def k0_off7 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v56 : Index := Scalar.indexCast v24
  let c640 : Index := 640#32
  ![v56.toNat, 640]
def k0_off8 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v62 : Index := Scalar.indexCast v24
  let c768 : Index := 768#32
  ![v62.toNat, 768]
def k0_off9 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v68 : Index := Scalar.indexCast v24
  let c896 : Index := 896#32
  ![v68.toNat, 896]
def k0_off10 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v74 : Index := Scalar.indexCast v24
  let c1024 : Index := 1024#32
  ![v74.toNat, 1024]
def k0_off11 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v80 : Index := Scalar.indexCast v24
  let c1152 : Index := 1152#32
  ![v80.toNat, 1152]
def k0_off12 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v86 : Index := Scalar.indexCast v24
  let c1280 : Index := 1280#32
  ![v86.toNat, 1280]
def k0_off13 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v92 : Index := Scalar.indexCast v24
  let c1408 : Index := 1408#32
  ![v92.toNat, 1408]
def k0_off14 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v98 : Index := Scalar.indexCast v24
  let c1536 : Index := 1536#32
  ![v98.toNat, 1536]
def k0_off15 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v104 : Index := Scalar.indexCast v24
  let c1664 : Index := 1664#32
  ![v104.toNat, 1664]
def k0_off16 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v110 : Index := Scalar.indexCast v24
  let c1792 : Index := 1792#32
  ![v110.toNat, 1792]
def k0_off17 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v116 : Index := Scalar.indexCast v24
  let c1920 : Index := 1920#32
  ![v116.toNat, 1920]
def k0_off18 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v122 : Index := Scalar.indexCast v24
  let c2048 : Index := 2048#32
  ![v122.toNat, 2048]
def k0_off19 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v128 : Index := Scalar.indexCast v24
  let c2176 : Index := 2176#32
  ![v128.toNat, 2176]
def k0_off20 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v134 : Index := Scalar.indexCast v24
  let c2304 : Index := 2304#32
  ![v134.toNat, 2304]
def k0_off21 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v140 : Index := Scalar.indexCast v24
  let c2432 : Index := 2432#32
  ![v140.toNat, 2432]
def k0_off22 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v146 : Index := Scalar.indexCast v24
  let c2560 : Index := 2560#32
  ![v146.toNat, 2560]
def k0_off23 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v152 : Index := Scalar.indexCast v24
  let c2688 : Index := 2688#32
  ![v152.toNat, 2688]
def k0_off24 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v158 : Index := Scalar.indexCast v24
  let c2816 : Index := 2816#32
  ![v158.toNat, 2816]
def k0_off25 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v164 : Index := Scalar.indexCast v24
  let c2944 : Index := 2944#32
  ![v164.toNat, 2944]
def k0_off26 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v170 : Index := Scalar.indexCast v24
  let c3072 : Index := 3072#32
  ![v170.toNat, 3072]
def k0_off27 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v176 : Index := Scalar.indexCast v24
  let c3200 : Index := 3200#32
  ![v176.toNat, 3200]
def k0_off28 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v182 : Index := Scalar.indexCast v24
  let c3328 : Index := 3328#32
  ![v182.toNat, 3328]
def k0_off29 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v188 : Index := Scalar.indexCast v24
  let c3456 : Index := 3456#32
  ![v188.toNat, 3456]
def k0_off30 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v194 : Index := Scalar.indexCast v24
  let c3584 : Index := 3584#32
  ![v194.toNat, 3584]
def k0_off31 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v200 : Index := Scalar.indexCast v24
  let c3712 : Index := 3712#32
  ![v200.toNat, 3712]
def k0_off32 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v206 : Index := Scalar.indexCast v24
  let c3840 : Index := 3840#32
  ![v206.toNat, 3840]
def k0_off33 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v212 : Index := Scalar.indexCast v24
  let c3968 : Index := 3968#32
  ![v212.toNat, 3968]
def k0_off34 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v218 : Index := Scalar.indexCast v24
  let c4096 : Index := 4096#32
  ![v218.toNat, 4096]
def k0_off35 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v224 : Index := Scalar.indexCast v24
  let c4224 : Index := 4224#32
  ![v224.toNat, 4224]
def k0_off36 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v230 : Index := Scalar.indexCast v24
  let c4352 : Index := 4352#32
  ![v230.toNat, 4352]
def k0_off37 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v236 : Index := Scalar.indexCast v24
  let c4480 : Index := 4480#32
  ![v236.toNat, 4480]
def k0_off38 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v242 : Index := Scalar.indexCast v24
  let c4608 : Index := 4608#32
  ![v242.toNat, 4608]
def k0_off39 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v248 : Index := Scalar.indexCast v24
  let c4736 : Index := 4736#32
  ![v248.toNat, 4736]
def k0_off40 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v254 : Index := Scalar.indexCast v24
  let c4864 : Index := 4864#32
  ![v254.toNat, 4864]
def k0_off41 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v260 : Index := Scalar.indexCast v24
  let c4992 : Index := 4992#32
  ![v260.toNat, 4992]
def k0_off42 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v266 : Index := Scalar.indexCast v24
  let c5120 : Index := 5120#32
  ![v266.toNat, 5120]
def k0_off43 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v272 : Index := Scalar.indexCast v24
  let c5248 : Index := 5248#32
  ![v272.toNat, 5248]
def k0_off44 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v278 : Index := Scalar.indexCast v24
  let c5376 : Index := 5376#32
  ![v278.toNat, 5376]
def k0_off45 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v284 : Index := Scalar.indexCast v24
  let c5504 : Index := 5504#32
  ![v284.toNat, 5504]
def k0_off46 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v290 : Index := Scalar.indexCast v24
  let c5632 : Index := 5632#32
  ![v290.toNat, 5632]
def k0_off47 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v296 : Index := Scalar.indexCast v24
  let c5760 : Index := 5760#32
  ![v296.toNat, 5760]
def k0_off48 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v302 : Index := Scalar.indexCast v24
  let c5888 : Index := 5888#32
  ![v302.toNat, 5888]
def k0_off49 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v308 : Index := Scalar.indexCast v24
  let c6016 : Index := 6016#32
  ![v308.toNat, 6016]
def k0_off50 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v314 : Index := Scalar.indexCast v24
  let c6144 : Index := 6144#32
  ![v314.toNat, 6144]
def k0_off51 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v320 : Index := Scalar.indexCast v24
  let c6272 : Index := 6272#32
  ![v320.toNat, 6272]
def k0_off52 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v326 : Index := Scalar.indexCast v24
  let c6400 : Index := 6400#32
  ![v326.toNat, 6400]
def k0_off53 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v332 : Index := Scalar.indexCast v24
  let c6528 : Index := 6528#32
  ![v332.toNat, 6528]
def k0_off54 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v338 : Index := Scalar.indexCast v24
  let c6656 : Index := 6656#32
  ![v338.toNat, 6656]
def k0_off55 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v344 : Index := Scalar.indexCast v24
  let c6784 : Index := 6784#32
  ![v344.toNat, 6784]
def k0_off56 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v350 : Index := Scalar.indexCast v24
  let c6912 : Index := 6912#32
  ![v350.toNat, 6912]
def k0_off57 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v356 : Index := Scalar.indexCast v24
  let c7040 : Index := 7040#32
  ![v356.toNat, 7040]
def k0_off58 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v362 : Index := Scalar.indexCast v24
  let c7168 : Index := 7168#32
  ![v362.toNat, 7168]
def k0_off59 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v368 : Index := Scalar.indexCast v24
  let c7296 : Index := 7296#32
  ![v368.toNat, 7296]
def k0_off60 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v374 : Index := Scalar.indexCast v24
  let c7424 : Index := 7424#32
  ![v374.toNat, 7424]
def k0_off61 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v380 : Index := Scalar.indexCast v24
  let c7552 : Index := 7552#32
  ![v380.toNat, 7552]
def k0_off62 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v386 : Index := Scalar.indexCast v24
  let c7680 : Index := 7680#32
  ![v386.toNat, 7680]
def k0_off63 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v392 : Index := Scalar.indexCast v24
  let c7808 : Index := 7808#32
  ![v392.toNat, 7808]
def k0_off64 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v398 : Index := Scalar.indexCast v24
  let c7936 : Index := 7936#32
  ![v398.toNat, 7936]
def k0_off65 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v404 : Index := Scalar.indexCast v24
  let c8064 : Index := 8064#32
  ![v404.toNat, 8064]
def k0_off66 (k0_t1 : Fin k0_t1_loop.trips) : Fin 2 → Nat :=
  let c0_i32_10 : BitVec 32 := 0#32
  let c1_i32 : BitVec 32 := 1#32
  let arg12 : BitVec 32 := Scf.iv c0_i32_10 c1_i32 k0_t1
  let c32_i32 : BitVec 32 := 32#32
  let v23 : BitVec 32 := Scalar.muli arg12 c32_i32
  let v24 : BitVec 32 := v23
  let v1278 : Index := Scalar.indexCast v24
  let c0_219 : Index := 0#32
  ![v1278.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x6144x7168 : Shape := ⟨3, ![4, 6144, 7168]⟩
abbrev S4x6144x56 : Shape := ⟨3, ![4, 6144, 56]⟩
abbrev S7168x8192 : Shape := ⟨2, ![7168, 8192]⟩
abbrev S8192 : Shape := ⟨1, ![8192]⟩
abbrev S4x6144x8192 : Shape := ⟨3, ![4, 6144, 8192]⟩
abbrev S24576x7168 : Shape := ⟨2, ![24576, 7168]⟩
abbrev S24576x56 : Shape := ⟨2, ![24576, 56]⟩
abbrev S1x8192 : Shape := ⟨2, ![1, 8192]⟩
abbrev S24576x8192 : Shape := ⟨2, ![24576, 8192]⟩
abbrev S24576x1 : Shape := ⟨2, ![24576, 1]⟩
abbrev S24576x56x128 : Shape := ⟨3, ![24576, 56, 128]⟩
abbrev S24576x56x1 : Shape := ⟨3, ![24576, 56, 1]⟩
abbrev S24576 : Shape := ⟨1, ![24576]⟩
abbrev S24576x254 : Shape := ⟨2, ![24576, 254]⟩

abbrev nBuf : Space → Nat
  | .hbm => 14
  | .vmem => 9
  | .smem => 0
  | _ => 0

abbrev bufTy : (tb : Table) → Fin (tcTables nBuf tb) → BufTy
  | .hbm, ⟨0, _⟩ => ⟨S4x6144x7168, .fp8e4m3⟩
  | .hbm, ⟨1, _⟩ => ⟨S4x6144x56, .f32⟩
  | .hbm, ⟨2, _⟩ => ⟨S7168x8192, .fp8e4m3⟩
  | .hbm, ⟨3, _⟩ => ⟨S8192, .f32⟩
  | .hbm, ⟨4, _⟩ => ⟨S4x6144x8192, .bf16⟩
  | .hbm, ⟨5, _⟩ => ⟨S8192, .bf16⟩
  | .hbm, ⟨6, _⟩ => ⟨S24576x7168, .fp8e4m3⟩
  | .hbm, ⟨7, _⟩ => ⟨S24576x56, .f32⟩
  | .hbm, ⟨8, _⟩ => ⟨S1x8192, .f32⟩
  | .hbm, ⟨9, _⟩ => ⟨S24576x8192, .bf16⟩
  | .hbm, ⟨10, _⟩ => ⟨S1x8192, .bf16⟩
  | .hbm, ⟨11, _⟩ => ⟨S24576x8192, .bf16⟩
  | .hbm, ⟨12, _⟩ => ⟨S24576x8192, .fp8e4m3⟩
  | .hbm, ⟨13, _⟩ => ⟨S24576x1, .f32⟩
  | .local _ .vmem, ⟨0, _⟩ => ⟨S24576x7168, .fp8e4m3⟩
  | .local _ .vmem, ⟨1, _⟩ => ⟨S24576x56, .f32⟩
  | .local _ .vmem, ⟨2, _⟩ => ⟨S7168x8192, .fp8e4m3⟩
  | .local _ .vmem, ⟨3, _⟩ => ⟨S1x8192, .f32⟩
  | .local _ .vmem, ⟨4, _⟩ => ⟨S24576x8192, .bf16⟩
  | .local _ .vmem, ⟨5, _⟩ => ⟨S1x8192, .bf16⟩
  | .local _ .vmem, ⟨6, _⟩ => ⟨S24576x8192, .bf16⟩
  | .local _ .vmem, ⟨7, _⟩ => ⟨S24576x8192, .fp8e4m3⟩
  | .local _ .vmem, ⟨8, _⟩ => ⟨S24576x1, .f32⟩
  | _, _ => ⟨S4x6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S24576x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KF.Base.lean ====
/- What the runs of the body and the launch share: the branch conditions in closed form, the staging memrefs, the invariant. -/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 768 := Nat.lt_of_lt_of_eq t.isLt N_0
    have e0 : (grid0.coords t 0).val = t.val / 16 % 48 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 768 := Nat.lt_of_lt_of_eq t.isLt N_0
    have e0 : (grid0.coords t 0).val = t.val / 16 % 48 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x56 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x8192 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x8192 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Run

end
-- ==== Proof.KF.FrameA.lean ====
/- The body run in case A, its outputs at some contents. -/
module

public import proofs.«01_k».proof.Proof.KF.Base

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1344000 in
/-- The body's triple IN CASE A (`scf.if` 0 taken, `scf.if` 1 not taken: points 0, 16, … 752: 48 of 768): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (hc0 : cond0_0 i) (hc1 : ¬cond0_1 i)
    (x0 : Vec F S512x7168 .fp8e4m3) (x1 : Vec F S512x56 .f32) (x2 : Vec F S7168x512 .fp8e4m3) (x3 : Vec F S1x512 .f32) (x4 : Vec F S512x512 .bf16) (x5 : Vec F S1x8192 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj_norm_quant i arg2 harg2 arg3 harg3 arg4 harg4 arg5 harg5 arg6 harg6 arg7 harg7 arg8 harg8 arg9 harg9 arg10 harg10 arg11 harg11) K := by
    intro E K
    simp only [cc0_proj_norm_quant_eq_skeleton]; unfold cc0_proj_norm_quant_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact HS0
    ipureintro; rfl

end Cert.Kernel.Run

end
-- ==== Proof.KF.FrameB.lean ====
/- The body run in case B, its outputs at some contents. -/
module

public import proofs.«01_k».proof.Proof.KF.Base

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 not taken: points 1, 2, … 766: 672 of 768): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (hc0 : ¬cond0_0 i) (hc1 : ¬cond0_1 i)
    (x0 : Vec F S512x7168 .fp8e4m3) (x1 : Vec F S512x56 .f32) (x2 : Vec F S7168x512 .fp8e4m3) (x3 : Vec F S1x512 .f32) (x4 : Vec F S512x512 .bf16) (x5 : Vec F S1x8192 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj_norm_quant i arg2 harg2 arg3 harg3 arg4 harg4 arg5 harg5 arg6 harg6 arg7 harg7 arg8 harg8 arg9 harg9 arg10 harg10 arg11 harg11) K := by
    intro E K
    simp only [cc0_proj_norm_quant_eq_skeleton]; unfold cc0_proj_norm_quant_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact HS0
    ipureintro; rfl

end Cert.Kernel.Run

end
-- ==== Proof.KF.FrameC.lean ====
/- The body run in case C, its outputs at some contents. -/
module

public import proofs.«01_k».proof.Proof.KF.Base

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 taken: points 15, 31, … 767: 48 of 768): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (hc0 : ¬cond0_0 i) (hc1 : cond0_1 i)
    (x0 : Vec F S512x7168 .fp8e4m3) (x1 : Vec F S512x56 .f32) (x2 : Vec F S7168x512 .fp8e4m3) (x3 : Vec F S1x512 .f32) (x4 : Vec F S512x512 .bf16) (x5 : Vec F S1x8192 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj_norm_quant i arg2 harg2 arg3 harg3 arg4 harg4 arg5 harg5 arg6 harg6 arg7 harg7 arg8 harg8 arg9 harg9 arg10 harg10 arg11 harg11) K := by
    intro E K
    simp only [cc0_proj_norm_quant_eq_skeleton]; unfold cc0_proj_norm_quant_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact HS0
    ipureintro; rfl

end Cert.Kernel.Run

end
-- ==== Proof.KF.Frame.lean ====
/- The frame of the kernel with its outputs forgotten. -/
module

public import proofs.«01_k».proof.Proof.KF.FrameA
public import proofs.«01_k».proof.Proof.KF.FrameB
public import proofs.«01_k».proof.Proof.KF.FrameC

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 768 := lt_of_lt_of_eq t.isLt (show cfg0.N = 768 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, H6, H7, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, H6, H7, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      iintro ⟨H0, H1, H2, H3, H4, H5, H6, H7, H8, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.KI.Base.lean ====
/- What the runs of the body and the launch share: the branch conditions in closed form, the staging memrefs, the invariant. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 768 := Nat.lt_of_lt_of_eq t.isLt N_0
    have e0 : (grid0.coords t 0).val = t.val / 16 % 48 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 768 := Nat.lt_of_lt_of_eq t.isLt N_0
    have e0 : (grid0.coords t 0).val = t.val / 16 % 48 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x56 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8192 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x8192 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x8192 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Run

end
-- ==== Proof.KI.Spec.lean ====
/- The mathematics both programs compute, over plain functions of natural-number coordinates. -/
module

public import Idealize.ShloMosaic.Lib.ValueIdx
public import Idealize.ShloMosaic.Lib.Pipeline.Value
public import Idealize.ShloMosaic.PureOps.Ideal.Laws

@[expose] public section

noncomputable section

namespace Cert.Spec

open Idealize.ShloMosaic Idealize.ShloMosaic.ValueIdx

/-- A float word read at the ideal values. -/
def bits (b : BitVec 32) : EReal := (FloatOps.ofBits .f32 b : Ideal .f32)

/-- A matrix read at natural-number coordinates, `0` outside it. -/
def at2 {a b : ℕ} (H : (⟨2, ![a, b]⟩ : Shape).Idx → EReal) (r d : ℕ) : EReal :=
  if h : r < a ∧ d < b then H (ix2 ⟨r, h.1⟩ ⟨d, h.2⟩) else 0

theorem at2_idx {a b : ℕ} (H : (⟨2, ![a, b]⟩ : Shape).Idx → EReal) (y : (⟨2, ![a, b]⟩ : Shape).Idx) :
    at2 H (y 0).val (y 1).val = H y := by
  unfold at2
  rw [dif_pos ⟨idx2_lt0 y, idx2_lt1 y⟩]
  exact congrArg H (eq_ix2 y).symm

/-- The same at coordinates known to be the index's. -/
theorem at2_of {a b : ℕ} (H : (⟨2, ![a, b]⟩ : Shape).Idx → EReal) (y : (⟨2, ![a, b]⟩ : Shape).Idx) {r d : ℕ}
    (hr : (y 0).val = r) (hd : (y 1).val = d) : at2 H r d = H y := by
  subst hr hd; exact at2_idx H y

theorem at2_apply {a b : ℕ} (f : ℕ → ℕ → EReal) {r d : ℕ} (hr : r < a) (hd : d < b) :
    at2 (a := a) (b := b) (fun y => f (y 0).val (y 1).val) r d = f r d := by
  unfold at2; rw [dif_pos ⟨hr, hd⟩]; rfl

/-- The reciprocal root mean square of a row. -/
def rstd (h : ℕ → EReal) : EReal :=
  Ideal.rsqrt ((∑ d ∈ Finset.range 8192, h d * h d) * bits 0x39000000#32 + bits 0x3727C5AC#32)

/-- The normalised row. -/
def nrm (h g : ℕ → EReal) (d : ℕ) : EReal := h d * rstd h * g d

/-- The largest magnitude of the normalised row, over the largest code. -/
def amax (h g : ℕ → EReal) : EReal :=
  ((Finset.range 8192).sup fun d => max (nrm h g d) (-(nrm h g d))) * bits 0x3B124925#32

/-- The clipped code of an element, given the reciprocal scale. -/
def clip (x : EReal) : EReal := min (bits 0x43E00000#32) (max (bits 0xC3E00000#32) x)

/-- The `l`-th power of two the kernel compares against, built from its word. -/
def edge (l : ℕ) : EReal := bits (IntOp.shli .vector (IntOp.addi (BitVec.ofNat 32 l) 1#32) 23#32)
/-- How many of those powers lie at or below `a`. -/
def cntK (a : EReal) : BitVec 32 :=
  (Finset.univ : Finset (Fin 255)).fold IKind.add.op 0#32 fun l => Scalar.select (Ideal.cmp .olt a (edge l.val)) 0#32 1#32
/-- The exponent of `a` as the kernel computes it. -/
def expK (a : EReal) : BitVec 32 := Scalar.select (IntOp.cmpi .eq (cntK a) 0#32) 0#32 (IntOp.subi (cntK a) 126#32)
/-- The scale. -/
def kscale (a : EReal) : EReal := bits (IntOp.shli .vector (IntOp.addi (expK a) 127#32) 23#32)
/-- The reciprocal of the scale. -/
def kinv (a : EReal) : EReal := bits (IntOp.shli .vector (IntOp.addi (IntOp.subi 0#32 (expK a)) 127#32) 23#32)

/-- A running maximum from zero. -/
def runMax (f : ℕ → EReal) : ℕ → EReal
  | 0 => bits 0x00000000#32
  | n + 1 => max (runMax f n) (f n)

/-- A running sum from zero. -/
def runSum (f : ℕ → EReal) : ℕ → EReal
  | 0 => bits 0x00000000#32
  | n + 1 => runSum f n + f n

theorem bits_zero : bits 0x00000000#32 = 0 := by
  show Ideal.ofBits .f32 0x00000000#32 = 0
  simp [Ideal.ofBits, Ideal.ieee]

theorem runSum_eq (f : ℕ → EReal) (n : ℕ) : runSum f n = ∑ c ∈ Finset.range n, f c := by
  induction n with
  | zero => simp [runSum, bits_zero]
  | succ n ih => rw [runSum, ih, Finset.sum_range_succ]

theorem runMax_eq (f : ℕ → EReal) (n : ℕ) : runMax f n = max 0 ((Finset.range n).sup f) := by
  induction n with
  | zero => simp [runMax, bits_zero]
  | succ n ih => rw [runMax, ih, Finset.range_add_one, Finset.sup_insert, max_assoc, max_comm (f n)]

/-- A sum over lanes of sums over chunks is the sum over the row. -/
theorem sum_chunks (f : ℕ → EReal) (b n : ℕ) :
    ∑ l ∈ Finset.range b, ∑ c ∈ Finset.range n, f (b * c + l) = ∑ d ∈ Finset.range (b * n), f d := by
  rw [Finset.sum_comm]
  induction n with
  | zero => simp
  | succ n ih => rw [Finset.sum_range_succ, ih, Nat.mul_succ, Finset.sum_range_add]

/-- A maximum over lanes of maxima over chunks is the maximum over the row. -/
theorem sup_chunks (f : ℕ → EReal) (b n : ℕ) (hb : 0 < b) :
    ((Finset.range b).sup fun l => (Finset.range n).sup fun c => f (b * c + l)) = (Finset.range (b * n)).sup f := by
  refine le_antisymm (Finset.sup_le fun l hl => Finset.sup_le fun c hc => ?_) (Finset.sup_le fun d hd => ?_)
  · rw [Finset.mem_range] at hl hc
    refine Finset.le_sup (f := f) (Finset.mem_range.mpr ?_)
    calc b * c + l < b * c + b := by omega
      _ = b * (c + 1) := by ring
      _ ≤ b * n := Nat.mul_le_mul_left _ hc
  · rw [Finset.mem_range] at hd
    have h1 : d % b < b := Nat.mod_lt _ hb
    have h2 : d / b < n := Nat.div_lt_of_lt_mul hd
    have e : f d = f (b * (d / b) + d % b) := by rw [Nat.div_add_mod]
    rw [e]
    exact le_trans (Finset.le_sup (f := fun c => f (b * c + d % b)) (Finset.mem_range.mpr h2))
      (Finset.le_sup (f := fun l => (Finset.range n).sup fun c => f (b * c + l)) (Finset.mem_range.mpr h1))

/-- The largest magnitude, from running maxima over the lanes' chunks. -/
theorem amax_lanes (h g : ℕ → EReal) :
    (Finset.univ.sup fun l : Fin 128 => runMax (fun c => max (nrm h g (128 * c + l.val)) (-(nrm h g (128 * c + l.val)))) 64)
      = (Finset.range 8192).sup fun d => max (nrm h g d) (-(nrm h g d)) := by
  have h0 : ∀ x : EReal, 0 ≤ max x (-x) := fun x => by
    rcases le_total 0 x with hx | hx
    · exact le_max_of_le_left hx
    · exact le_max_of_le_right (EReal.neg_nonneg.mpr hx)
  rw [← sup_chunks (fun d => max (nrm h g d) (-(nrm h g d))) 128 64 (by decide)]
  refine le_antisymm (Finset.sup_le fun l _ => ?_) (Finset.sup_le fun l hl => ?_)
  · rw [runMax_eq, max_eq_right]
    · exact Finset.le_sup (f := fun l => (Finset.range 64).sup fun c => max (nrm h g (128 * c + l)) (-(nrm h g (128 * c + l))))
        (Finset.mem_range.mpr l.isLt)
    · exact le_trans (h0 _) (Finset.le_sup (f := fun c => max (nrm h g (128 * c + l.val)) (-(nrm h g (128 * c + l.val))))
        (Finset.mem_range.mpr (by decide : 0 < 64)))
  · rw [Finset.mem_range] at hl
    refine le_trans ?_ (Finset.le_sup (f := fun l : Fin 128 => runMax (fun c => max (nrm h g (128 * c + l.val)) (-(nrm h g (128 * c + l.val)))) 64)
      (Finset.mem_univ ⟨l, hl⟩))
    rw [runMax_eq]
    exact le_max_right _ _

/-- One entry of the projection with its residual. -/
def proj (X XS W WS R : ℕ → ℕ → EReal) (r d : ℕ) : EReal :=
  R r d + (∑ k : Fin 7168, (X r k.val * XS r (k.val / 128)) * W k.val d) * WS 0 d
/-- The projection with its residual as an array. -/
def projArr (x : (⟨2, ![24576, 7168]⟩ : Shape).Idx → EReal) (xs : (⟨2, ![24576, 56]⟩ : Shape).Idx → EReal)
    (w : (⟨2, ![7168, 8192]⟩ : Shape).Idx → EReal) (ws : (⟨2, ![1, 8192]⟩ : Shape).Idx → EReal)
    (res : (⟨2, ![24576, 8192]⟩ : Shape).Idx → EReal) : (⟨2, ![24576, 8192]⟩ : Shape).Idx → EReal :=
  fun y => proj (at2 x) (at2 xs) (at2 w) (at2 ws) (at2 res) (y 0).val (y 1).val
/-- The code of an element of a row. -/
def codeOf (h g : ℕ → EReal) (d : ℕ) : EReal := clip (nrm h g d * kinv (amax h g))
/-- The codes of an array of rows. -/
def codesOf (H : (⟨2, ![24576, 8192]⟩ : Shape).Idx → EReal) (g : (⟨2, ![1, 8192]⟩ : Shape).Idx → EReal) :
    (⟨2, ![24576, 8192]⟩ : Shape).Idx → EReal := fun y => codeOf (at2 H (y 0).val) (at2 g 0) (y 1).val
/-- The scales of an array of rows. -/
def scalesOf (H : (⟨2, ![24576, 8192]⟩ : Shape).Idx → EReal) (g : (⟨2, ![1, 8192]⟩ : Shape).Idx → EReal) :
    (⟨2, ![24576, 1]⟩ : Shape).Idx → EReal := fun y => kscale (amax (at2 H (y 0).val) (at2 g 0))

end Cert.Spec

end
-- ==== Proof.KI.Vec.lean ====
/- Vector operations at the ideal values, read element by element. -/
module

public import Idealize.ShloMosaic.Lib.ValueIdx
public import Idealize.ShloMosaic.Lib.Pipeline.Value
public import Idealize.ShloMosaic.PureOps.Ideal.Laws
public import proofs.«01_k».proof.Proof.KI.Spec

@[expose] public section

noncomputable section

namespace Cert.Spec

open Idealize.ShloMosaic Idealize.ShloMosaic.ValueIdx

theorem addI {s : Shape} {φ : FTy} (x y : FVec Ideal s φ) (j : s.Idx) : addf x y j = (x j + y j : EReal) := rfl
theorem subI {s : Shape} {φ : FTy} (x y : FVec Ideal s φ) (j : s.Idx) : subf x y j = (x j - y j : EReal) := rfl
theorem mulI {s : Shape} {φ : FTy} (x y : FVec Ideal s φ) (j : s.Idx) : mulf x y j = (x j * y j : EReal) := rfl
theorem divI {s : Shape} {φ : FTy} (x y : FVec Ideal s φ) (j : s.Idx) : divf x y j = Ideal.div (x j) (y j) := rfl
theorem maxI {s : Shape} {φ : FTy} (x y : FVec Ideal s φ) (j : s.Idx) : maximumf x y j = (max (x j) (y j) : EReal) := rfl
theorem minI {s : Shape} {φ : FTy} (x y : FVec Ideal s φ) (j : s.Idx) : minimumf x y j = (min (x j) (y j) : EReal) := rfl
theorem absI {s : Shape} {φ : FTy} (x : FVec Ideal s φ) (j : s.Idx) : absf x j = (max (x j) (-(x j)) : EReal) := rfl
theorem rsqrtI {s : Shape} {φ : FTy} (x : FVec Ideal s φ) (j : s.Idx) : rsqrt x j = Ideal.rsqrt (x j) := rfl
theorem exp2I {s : Shape} {φ : FTy} (x : FVec Ideal s φ) (j : s.Idx) : exp2 x j = Ideal.exp2 (x j) := rfl
theorem extI {s : Shape} {φ : FTy} (ψ : FTy) (x : FVec Ideal s φ) (h : φ.bits < ψ.bits) (j : s.Idx) : (extf ψ x h j : EReal) = x j := rfl
theorem truncI {s : Shape} {φ : FTy} (ψ : FTy) (x : FVec Ideal s φ) (h : ψ.bits < φ.bits) (j : s.Idx) : (truncf ψ x h j : EReal) = x j := rfl
theorem bcI {s : Shape} (b : BitVec 32) (j : s.Idx) : (broadcast s (Scalar.ofBits (F := Ideal) .f32 b) j : EReal) = bits b := rfl

/-- A column spread over the lanes. -/
theorem colI {α : Type} {n m : ℕ} (x : (⟨2, ![n, 1]⟩ : Shape).Idx → α) (h : (⟨2, ![n, 1]⟩ : Shape).Broadcasts ⟨2, ![n, m]⟩)
    (j : (⟨2, ![n, m]⟩ : Shape).Idx) : broadcastTo ⟨2, ![n, m]⟩ x h j = x (ix2 (j 0) 0) :=
  broadcastTo_apply x h j _ fun a => by
    match a with
    | ⟨0, _⟩ =>
      show (j 0).val = if n = 1 then 0 else (j 0).val
      have := idx2_lt0 j
      split <;> omega
    | ⟨1, _⟩ => rfl

/-- A row spread over the rows. -/
theorem rowI {α : Type} {n m : ℕ} (x : (⟨2, ![1, m]⟩ : Shape).Idx → α) (h : (⟨2, ![1, m]⟩ : Shape).Broadcasts ⟨2, ![n, m]⟩)
    (j : (⟨2, ![n, m]⟩ : Shape).Idx) : broadcastTo ⟨2, ![n, m]⟩ x h j = x (ix2 0 (j 1)) :=
  broadcastTo_apply x h j _ fun a => by
    match a with
    | ⟨0, _⟩ => rfl
    | ⟨1, _⟩ =>
      show (j 1).val = if m = 1 then 0 else (j 1).val
      have := idx2_lt1 j
      split <;> omega

/-- A vector as a column. -/
theorem unitColI {α : Type} {n : ℕ} (x : (⟨1, ![n]⟩ : Shape).Idx → α) (h : (⟨1, ![n]⟩ : Shape).ShapeCasts ⟨2, ![n, 1]⟩)
    (j : (⟨2, ![n, 1]⟩ : Shape).Idx) : shapeCast ⟨2, ![n, 1]⟩ x h j = x (ix1 (j 0)) :=
  shapeCast_apply x h j _ (by
    rw [Shape.rowMajor_val_one, Shape.rowMajor_val_two]
    have := idx2_lt1 j
    show (j 0).val = (j 0).val * 1 + (j 1).val
    omega)

theorem lift1 {n m : ℕ} (h : (⟨2, ![n, m]⟩ : Shape).Reduces [1] ⟨1, ![n]⟩) (j : (⟨1, ![n]⟩ : Shape).Idx) (l : Fin m) :
    h.lift j l = ix2 (j 0) l := by
  funext c
  match c with
  | ⟨0, _⟩ => rfl
  | ⟨1, _⟩ => rfl

/-- A sum over the lanes. -/
theorem laneSumI {n m : ℕ} (x : FVec Ideal ⟨2, ![n, m]⟩ .f32) (acc : BitVec 32) (h : (⟨2, ![n, m]⟩ : Shape).Reduces [1] ⟨1, ![n]⟩)
    (hφ : FKind.Formats .f32) (hacc : acc = FKind.add.neutral .f32 hφ) (j : (⟨1, ![n]⟩ : Shape).Idx) :
    (multiReduction .add [1] ⟨1, ![n]⟩ x acc h hφ hacc j : EReal) = ∑ l : Fin m, (x (ix2 (j 0) l) : EReal) :=
  (Ideal.multiReduction_add_single x acc h hφ hacc j).trans (Finset.sum_congr rfl fun l _ => congrArg x (lift1 h j l))

/-- A maximum over the lanes. -/
theorem laneMaxI {n m : ℕ} (x : FVec Ideal ⟨2, ![n, m]⟩ .f32) (h : (⟨2, ![n, m]⟩ : Shape).Reduces [1] ⟨1, ![n]⟩)
    (hφ : FKind.Formats .f32) (hacc : 0xFF800000#32 = FKind.maximumf.neutral .f32 hφ) (j : (⟨1, ![n]⟩ : Shape).Idx) :
    (multiReduction .maximumf [1] ⟨1, ![n]⟩ x 0xFF800000#32 h hφ hacc j : EReal) = Finset.univ.sup fun l : Fin m => (x (ix2 (j 0) l) : EReal) := by
  refine (Ideal.multiReduction_maximumf_single x _ h hφ hacc j).trans ?_
  have e : (FloatOps.ofBits (F := Ideal) .f32 0xFF800000#32 : EReal) = ⊥ := by
    show Ideal.ofBits .f32 0xFF800000#32 = ⊥
    simp [Ideal.ofBits, Ideal.ieee]
  rw [e]
  exact congrArg (fun f => Finset.fold max ⊥ f Finset.univ) (funext fun l => congrArg x (lift1 h j l))

/-- An integer sum over the lanes. -/
theorem laneSumII {n m : ℕ} (x : IVec ⟨2, ![n, m]⟩ 32) (h : (⟨2, ![n, m]⟩ : Shape).Reduces [1] ⟨1, ![n]⟩)
    (hacc : 0#32 = IKind.add.neutral) (j : (⟨1, ![n]⟩ : Shape).Idx) :
    multiReductionI .add [1] ⟨1, ![n]⟩ x 0#32 h hacc j
      = (Finset.univ : Finset (Fin m)).fold IKind.add.op 0#32 (fun l => x (ix2 (j 0) l)) := by
  classical
  rw [multiReductionI_eq_fold, h.fold_filter_drop_single]
  exact congrArg (fun f => Finset.fold _ _ f Finset.univ) (funext fun l => congrArg x (lift1 h j l))

/-- An integer minimum over the lanes. -/
theorem laneMinII {n m : ℕ} (x : IVec ⟨2, ![n, m]⟩ 32) (h : (⟨2, ![n, m]⟩ : Shape).Reduces [1] ⟨1, ![n]⟩)
    (hacc : 2147483647#32 = IKind.minsi.neutral) (j : (⟨1, ![n]⟩ : Shape).Idx) :
    multiReductionI .minsi [1] ⟨1, ![n]⟩ x 2147483647#32 h hacc j
      = (Finset.univ : Finset (Fin m)).fold IKind.minsi.op 2147483647#32 (fun l => x (ix2 (j 0) l)) := by
  classical
  rw [multiReductionI_eq_fold, h.fold_filter_drop_single]
  exact congrArg (fun f => Finset.fold _ _ f Finset.univ) (funext fun l => congrArg x (lift1 h j l))

end Cert.Spec

end
-- ==== Proof.KI.Tile.lean ====
/- What the body stores, as functions of what it loads. -/
module

public import proofs.«01_k».proof.Proof.KI.Base
public import proofs.«01_k».proof.Proof.KI.Spec
public import proofs.«01_k».proof.Proof.KI.Vec

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Spec

theorem trip_col (i : grid0.Coords) : k0_off1 i = ![0, 512 * (i 1).val] := by
  have r_k : (i 1).val < 16 := (i 1).isLt
  unfold k0_off1
  dsimp only
  generalize i 1 = q at r_k ⊢
  obtain ⟨k, hk⟩ := q
  dsimp only at r_k ⊢
  interval_cases k <;> rfl

/-- A block with its `j`-th band of 512 columns replaced. -/
def upd (j : ℕ) (T : Vec Ideal S512x512 .bf16) (d : Vec Ideal S512x8192 .bf16) : Vec Ideal S512x8192 .bf16 :=
  fun z => if 512 * j ≤ (z 1).val ∧ (z 1).val < 512 * j + 512 then at2 (a := 512) (b := 512) T (z 0).val ((z 1).val - 512 * j) else d z

theorem read_upd (v : View sig .tc .vmem S512x8192 .bf16) (f : v.ty.Contents (Elt Ideal)) (i : grid0.Coords)
    (inb : ∀ a, k0_off1 i a + S512x512.size a ≤ S512x8192.size a) (T : Vec Ideal S512x512 .bf16) :
    v.read (Elt Ideal) (v.writes (Elt Ideal) f [⟨Rect.unit (s := S512x8192) (k0_off1 i) S512x512.size inb, T⟩]) = upd (i 1).val T (v.read (Elt Ideal) f) := by
  have ho := trip_col i
  generalize k0_off1 i = off at ho inb ⊢
  subst ho
  funext z
  unfold upd
  by_cases hz : 512 * (i 1).val ≤ (z 1).val ∧ (z 1).val < 512 * (i 1).val + 512
  · rw [if_pos hz]
    have hm : z ∈ (Rect.unit (s := S512x8192) ![0, 512 * (i 1).val] S512x512.size inb).set := by
      rw [Rect.mem_set_unit]
      intro a
      match a with
      | ⟨0, _⟩ => exact ⟨Nat.zero_le _, by have := idx2_lt0 z; show (z 0).val < 0 + 512; omega⟩
      | ⟨1, _⟩ => exact hz
    obtain ⟨x, rfl⟩ := (Rect.unit (s := S512x8192) ![0, 512 * (i 1).val] S512x512.size inb).exists_idx_of_mem hm
    have e0 : ((Rect.unit (s := S512x8192) ![0, 512 * (i 1).val] S512x512.size inb).emb x 0).val = (x 0).val := by
      show 0 + 1 * (x 0).val = _; omega
    have e1 : ((Rect.unit (s := S512x8192) ![0, 512 * (i 1).val] S512x512.size inb).emb x 1).val - 512 * (i 1).val = (x 1).val := by
      show 512 * (i 1).val + 1 * (x 1).val - _ = _; omega
    have h1 := View.read_writes_cons_emb (v := v) f (Rect.unit (s := S512x8192) ![0, 512 * (i 1).val] S512x512.size inb) T [] x
    have h2 : at2 (a := 512) (b := 512) T ((Rect.unit (s := S512x8192) ![0, 512 * (i 1).val] S512x512.size inb).emb x 0).val
        (((Rect.unit (s := S512x8192) ![0, 512 * (i 1).val] S512x512.size inb).emb x 1).val - 512 * (i 1).val) = T x := by
      rw [e0, e1]
      exact at2_idx T x
    exact h1.trans h2.symm
  · rw [if_neg hz]
    refine View.read_writes_apply_of_forall_not_mem (v := v) f z _ fun p hp => ?_
    obtain rfl := List.mem_singleton.mp hp
    intro hm
    have hm : z ∈ (Rect.unit (s := S512x8192) ![0, 512 * (i 1).val] S512x512.size inb).set := hm
    rw [Rect.mem_set_unit] at hm
    exact hz (hm 1)

/-- A load of a whole buffer reads what it holds. -/
theorem ld_full {Val : EltTy → Type} {e : EltTy} {s : Shape} (v : View sig .tc .vmem s e) (f : v.ty.Contents Val) {off : Fin s.rank → ℕ} (inb : ∀ a, off a + s.size a ≤ s.size a) :
    v.readAt Val (Rect.unit off s.size inb).toLoadRect f = v.read Val f := by
  funext y
  exact congrArg (v.read Val f) (funext fun a => Fin.ext (by
    show off a + 1 * (y a).val = (y a).val
    have := inb a; omega))
theorem pay2_congr {a a' : Vec Ideal S512x7168 .bf16} {b b' : Vec Ideal S7168x512 .fp8e4m3} {c c' : Vec Ideal S512x512 .bf16} {d d' : Vec Ideal S1x512 .f32}
    (ha : a = a') (hb : b = b') (hc : c = c') (hd : d = d') : k0_pay2 (F := Ideal) a b c d = k0_pay2 a' b' c' d' := by
  subst ha hb hc hd; rfl

/-- The codes of a block of rows. -/
def codesV (H : Vec Ideal S512x8192 .bf16) (x5 : Vec Ideal S1x8192 .bf16) : Vec Ideal S512x8192 .fp8e4m3 :=
  fun y => clip (nrm (at2 (a := 512) (b := 8192) H (y 0).val) (at2 (a := 1) (b := 8192) x5 0) (y 1).val * kinv (amax (at2 (a := 512) (b := 8192) H (y 0).val) (at2 (a := 1) (b := 8192) x5 0)))
/-- The scales of a block of rows. -/
def scalesV (H : Vec Ideal S512x8192 .bf16) (x5 : Vec Ideal S1x8192 .bf16) : Vec Ideal S512x1 .f32 :=
  fun y => kscale (amax (at2 (a := 512) (b := 8192) H (y 0).val) (at2 (a := 1) (b := 8192) x5 0))
/-- The dequantised activations of a block of rows. -/
def deq (x0 : Vec Ideal S512x7168 .fp8e4m3) (x1 : Vec Ideal S512x56 .f32) : Vec Ideal S512x7168 .bf16 :=
  fun y => (at2 (a := 512) (b := 7168) x0 (y 0).val (y 1).val * at2 (a := 512) (b := 56) x1 (y 0).val ((y 1).val / 128) : EReal)

end Cert.KernelIdeal.Run

end
-- ==== Proof.KI.Fill.lean ====
/- The dequantised activations, group by group. -/
module

public import proofs.«01_k».proof.Proof.KI.Tile

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Spec

section
variable (x0 : Vec Ideal S512x7168 .fp8e4m3) (x1 : Vec Ideal S512x56 .f32)

/-- Pieces holding the dequantised activations, and covering the first groups of 128. -/
def Filled (L : List (View.Piece (Elt Ideal) S512x7168 .bf16)) (n : ℕ) : Prop :=
  (∀ p ∈ L, ∀ x, p.2 x = deq x0 x1 (p.1.emb x)) ∧ ∀ y : S512x7168.Idx, (y 1).val < 128 * n → ∃ p ∈ L, y ∈ p.1.set

theorem filled_nil : Filled x0 x1 [] 0 := ⟨fun _ h => absurd h List.not_mem_nil, fun y h => absurd h (by omega)⟩

theorem filled_cons (c : ℕ) {L : List (View.Piece (Elt Ideal) S512x7168 .bf16)} {off : Fin 2 → ℕ} {inb : ∀ a, off a + S512x128.size a ≤ S512x7168.size a}
    (v : S512x128.Idx → EReal) (ho : off = ![0, 128 * c])
    (hv : ∀ x : S512x128.Idx, v x = at2 (a := 512) (b := 7168) x0 (x 0).val (128 * c + (x 1).val) * at2 (a := 512) (b := 56) x1 (x 0).val c) (h : Filled x0 x1 L c) :
    Filled x0 x1 (⟨Rect.unit (s := S512x7168) off S512x128.size inb, v⟩ :: L) (c + 1) := by
  subst ho
  refine ⟨fun p hp => ?_, fun y h3 => ?_⟩
  · rcases List.mem_cons.mp hp with rfl | hp
    · intro x
      refine (hv x).trans ?_
      have e0 : ((Rect.unit (s := S512x7168) ![0, 128 * c] S512x128.size inb).emb x 0).val = (x 0).val := by
        show 0 + 1 * (x 0).val = _; omega
      have e1 : ((Rect.unit (s := S512x7168) ![0, 128 * c] S512x128.size inb).emb x 1).val = 128 * c + (x 1).val := by
        show 128 * c + 1 * (x 1).val = _; omega
      have e2 : (128 * c + (x 1).val) / 128 = c := by
        have := idx2_lt1 x
        omega
      show _ = (at2 (a := 512) (b := 7168) x0 ((Rect.unit (s := S512x7168) ![0, 128 * c] S512x128.size inb).emb x 0).val ((Rect.unit (s := S512x7168) ![0, 128 * c] S512x128.size inb).emb x 1).val * at2 (a := 512) (b := 56) x1 ((Rect.unit (s := S512x7168) ![0, 128 * c] S512x128.size inb).emb x 0).val (((Rect.unit (s := S512x7168) ![0, 128 * c] S512x128.size inb).emb x 1).val / 128) : EReal)
      rw [e0, e1, e2]
    · exact h.1 p hp
  · by_cases hc : (y 1).val < 128 * c
    · obtain ⟨p, hp, hy⟩ := h.2 y hc
      exact ⟨p, List.mem_cons_of_mem _ hp, hy⟩
    · refine ⟨_, List.mem_cons_self, ?_⟩
      show y ∈ (Rect.unit (s := S512x7168) ![0, 128 * c] S512x128.size inb).set
      rw [Rect.mem_set_unit]
      intro a
      match a with
      | ⟨0, _⟩ => exact ⟨Nat.zero_le _, by have := idx2_lt0 y; show (y 0).val < 0 + 512; omega⟩
      | ⟨1, _⟩ => exact ⟨by show 128 * c ≤ (y 1).val; omega, by show (y 1).val < 128 * c + 128; omega⟩

theorem filled_read {L : List (View.Piece (Elt Ideal) S512x7168 .bf16)} (h : Filled x0 x1 L 56) (v : View sig .tc .vmem S512x7168 .bf16) (f : v.ty.Contents (Elt Ideal)) :
    v.read (Elt Ideal) (v.writes (Elt Ideal) f L) = deq x0 x1 :=
  funext fun y => View.read_writes_apply_of_pieces (v := v) f (deq x0 x1) L h.1 y (h.2 y (idx2_lt1 y))

theorem colF {α : Type} (x : S512x1.Idx → α) (h : S512x1.Broadcasts S512x128) (j : S512x128.Idx) : broadcastTo S512x128 x h j = x (ix2 (j 0) 0) := colI x h j

theorem ldx (arg2 : Memref sig .tc .vmem S512x7168 .fp8e4m3) (harg2 : arg2.IsWhole) {n : ℕ} (inb : ∀ a, (![0, n] : Fin 2 → ℕ) a + (![512, 128] : Fin 2 → ℕ) a ≤ S512x7168.size a) (j : (⟨2, ![512, 128]⟩ : Shape).Idx) :
    (View.readAt (Elt Ideal) arg2.view (Rect.unit (s := S512x7168) ![0, n] ![512, 128] inb).toLoadRect (harg2.unread x0) j : EReal)
      = at2 (a := 512) (b := 7168) x0 (j 0).val (n + (j 1).val) := by
  refine (congrFun (harg2.read_unread (Val := Elt Ideal) x0) _).trans (at2_of (a := 512) (b := 7168) x0 ((Rect.unit (s := S512x7168) _ ![512, 128] inb).emb j) ?_ ?_).symm
  · show 0 + 1 * (j 0).val = _
    omega
  · show n + 1 * (j 1).val = _
    omega
theorem lds (arg3 : Memref sig .tc .vmem S512x56 .f32) (harg3 : arg3.IsWhole) {n : ℕ} (inb : ∀ a, (![0, n] : Fin 2 → ℕ) a + (![512, 1] : Fin 2 → ℕ) a ≤ S512x56.size a) (j : (⟨2, ![512, 1]⟩ : Shape).Idx) :
    (View.readAt (Elt Ideal) arg3.view (Rect.unit (s := S512x56) ![0, n] ![512, 1] inb).toLoadRect (harg3.unread x1) j : EReal)
      = at2 (a := 512) (b := 56) x1 (j 0).val n := by
  refine (congrFun (harg3.read_unread (Val := Elt Ideal) x1) _).trans (at2_of (a := 512) (b := 56) x1 ((Rect.unit (s := S512x56) _ ![512, 1] inb).emb j) ?_ ?_).symm
  · show 0 + 1 * (j 0).val = _
    omega
  · show n + 1 * (j 1).val = _
    have := idx2_lt1 j
    omega

end

end Cert.KernelIdeal.Run

end
-- ==== Proof.KI.ValA.lean ====
/- The body run in case A, its outputs at some contents. -/
module

public import proofs.«01_k».proof.Proof.KI.Fill

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx Cert.Spec

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1344000 in
/-- The body in case A, its outputs at what it stores. -/
theorem run_A (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (hc0 : cond0_0 i) (hc1 : ¬cond0_1 i)
    (x0 : Vec Ideal S512x7168 .fp8e4m3) (x1 : Vec Ideal S512x56 .f32) (x2 : Vec Ideal S7168x512 .fp8e4m3) (x3 : Vec Ideal S1x512 .f32) (x4 : Vec Ideal S512x512 .bf16) (x5 : Vec Ideal S1x8192 .bf16) (d6 : Vec Ideal S512x8192 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (upd (i 1).val (k0_pay2 (deq x0 x1) x2 x4 x3) d6) ∗ (∃ d, owns (c : Thread nD τ) arg9 fullShare d) ∗ (∃ d, owns (c : Thread nD τ) arg10 fullShare d) ∗ owns (c : Thread nD τ) arg11 fullShare (deq x0 x1)) -∗ K ⟨⟩))
          ⊢ wp frame (wpE (defs₀ (F := Ideal)) Variants.none c none) E (cc0_proj_norm_quant i arg2 harg2 arg3 harg3 arg4 harg4 arg5 harg5 arg6 harg6 arg7 harg7 arg8 harg8 arg9 harg9 arg10 harg10 arg11 harg11) K := by
    intro E K
    simp only [cc0_proj_norm_quant_eq_skeleton]; unfold cc0_proj_norm_quant_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; subst hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    have hF : Filled x0 x1 (run_A.sl.HS0_56 c arg2 harg2 arg3 harg3 x0 x1) 56 := by
      delta run_A.sl.HS0_56
      refine filled_cons x0 x1 55 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 54 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 53 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 52 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 51 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 50 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 49 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 48 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 47 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 46 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 45 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 44 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 43 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 42 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 41 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 40 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 39 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 38 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 37 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 36 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 35 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 34 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 33 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 32 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 31 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 30 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 29 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 28 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 27 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 26 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 25 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 24 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 23 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 22 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 21 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 20 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 19 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 18 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 17 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 16 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 15 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 14 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 13 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 12 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 11 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 10 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 9 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 8 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 7 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 6 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 5 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 4 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 3 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 2 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 1 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      refine filled_cons x0 x1 0 _ rfl (fun x => ?_) ?_
      · (try delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11)
        simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, mulI, extI, truncI, colF, shapeCast_self, ldx, lds, Nat.reduceMul]
        try rfl
      exact filled_nil x0 x1
    have h3 : run_A.sl.v3 c arg2 harg2 arg3 harg3 arg11 x0 x1 = deq x0 x1 := by
      delta run_A.sl.v3
      exact (ld_full arg11.view _ _).trans (filled_read x0 x1 hF arg11.view _)
    isplitl [H6]
    · iexists _; isplitr; swap; · iexact H6
      ipureintro
      refine (read_upd arg8.view f6 i _ _).trans (congrArg (fun T => upd (i 1).val T _) ?_)
      exact pay2_congr (h3) ((ld_full _ _ _).trans (harg4.read_unread _)) ((ld_full _ _ _).trans (harg6.read_unread _)) ((ld_full _ _ _).trans (harg5.read_unread _))
    isplitl [H7]
    · iexists _, _; isplitr; swap; · iexact H7
      ipureintro; rfl
    isplitl [H8]
    · iexists _, _; isplitr; swap; · iexact H8
      ipureintro; rfl
    iexists _; isplitr; swap; · iexact HS0
    ipureintro; exact filled_read x0 x1 hF arg11.view fs0

end Cert.KernelIdeal.Run

end
-- ==== Proof.KI.ValB.lean ====
/- The body run in case B, its outputs at some contents. -/
module

public import proofs.«01_k».proof.Proof.KI.Tile

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 1000000 in
/-- The body in case B, its outputs at what it stores. -/
theorem run_B (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (hc0 : ¬cond0_0 i) (hc1 : ¬cond0_1 i)
    (x0 : Vec Ideal S512x7168 .fp8e4m3) (x1 : Vec Ideal S512x56 .f32) (x2 : Vec Ideal S7168x512 .fp8e4m3) (x3 : Vec Ideal S1x512 .f32) (x4 : Vec Ideal S512x512 .bf16) (x5 : Vec Ideal S1x8192 .bf16) (d6 : Vec Ideal S512x8192 .bf16) (xs : Vec Ideal S512x7168 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (upd (i 1).val (k0_pay2 xs x2 x4 x3) d6) ∗ (∃ d, owns (c : Thread nD τ) arg9 fullShare d) ∗ (∃ d, owns (c : Thread nD τ) arg10 fullShare d) ∗ owns (c : Thread nD τ) arg11 fullShare xs) -∗ K ⟨⟩))
          ⊢ wp frame (wpE (defs₀ (F := Ideal)) Variants.none c none) E (cc0_proj_norm_quant i arg2 harg2 arg3 harg3 arg4 harg4 arg5 harg5 arg6 harg6 arg7 harg7 arg8 harg8 arg9 harg9 arg10 harg10 arg11 harg11) K := by
    intro E K
    simp only [cc0_proj_norm_quant_eq_skeleton]; unfold cc0_proj_norm_quant_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; subst hf6; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_upd arg8.view f6 i _ _).trans (congrArg (fun T => upd (i 1).val T _) ?_)
      exact pay2_congr ((ld_full _ _ _).trans (harg11.read_unread _)) ((ld_full _ _ _).trans (harg4.read_unread _)) ((ld_full _ _ _).trans (harg6.read_unread _)) ((ld_full _ _ _).trans (harg5.read_unread _))
    isplitl [H7]
    · iexists _, _; isplitr; swap; · iexact H7
      ipureintro; rfl
    isplitl [H8]
    · iexists _, _; isplitr; swap; · iexact H8
      ipureintro; rfl
    iexists _; isplitr; · ipureintro; exact harg11.read_unread _
    iexact HS0

end Cert.KernelIdeal.Run

end
-- ==== Proof.KI.Trip.lean ====
/- The loads of a slab, its rows' statistics. -/
module

public import proofs.«01_k».proof.Proof.KI.Base
public import proofs.«01_k».proof.Proof.KI.Spec
public import proofs.«01_k».proof.Proof.KI.Vec

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Spec

theorem ix2v0 {n m : ℕ} (a : Fin n) (b : Fin m) : (ix2 a b 0).val = a.val := rfl
theorem ix2v1 {n m : ℕ} (a : Fin n) (b : Fin m) : (ix2 a b 1).val = b.val := rfl
theorem ix1v0 {n : ℕ} (a : Fin n) : (ix1 a 0).val = a.val := rfl
theorem runSum_succ (f : ℕ → EReal) (n : ℕ) : runSum f (n + 1) = runSum f n + f n := rfl
theorem runSum_zero (f : ℕ → EReal) : runSum f 0 = bits 0x00000000#32 := rfl
theorem runMax_succ (f : ℕ → EReal) (n : ℕ) : runMax f (n + 1) = max (runMax f n) (f n) := rfl
theorem runMax_zero (f : ℕ → EReal) : runMax f 0 = bits 0x00000000#32 := rfl

theorem colS {α : Type} (x : S32x1.Idx → α) (h : S32x1.Broadcasts S32x128) (j : S32x128.Idx) : broadcastTo S32x128 x h j = x (ix2 (j 0) 0) := colI x h j
theorem rowS {α : Type} (x : S1x128.Idx → α) (h : S1x128.Broadcasts S32x128) (j : S32x128.Idx) : broadcastTo S32x128 x h j = x (ix2 0 (j 1)) := rowI x h j

/-! ## Where a trip's loads and stores lie -/

theorem trip_row (k : Fin k0_t1_loop.trips) : (Scalar.indexCast (Scalar.muli (Scf.iv 0#32 1#32 k) 32#32)).toNat = 32 * k.val := by
  have r_k : k.val < 16 := Nat.lt_of_lt_of_le k.isLt k0_t1_abs.2.1
  obtain ⟨k, hk⟩ := k
  dsimp only at r_k ⊢
  interval_cases k <;> rfl

theorem off2_eq (k : Fin k0_t1_loop.trips) : k0_off2 k = ![32 * k.val, 128 * 0] :=
  by unfold k0_off2; dsimp only; rw [trip_row]
theorem off3_eq (k : Fin k0_t1_loop.trips) : k0_off3 k = ![32 * k.val, 128 * 1] :=
  by unfold k0_off3; dsimp only; rw [trip_row]
theorem off4_eq (k : Fin k0_t1_loop.trips) : k0_off4 k = ![32 * k.val, 128 * 2] :=
  by unfold k0_off4; dsimp only; rw [trip_row]
theorem off5_eq (k : Fin k0_t1_loop.trips) : k0_off5 k = ![32 * k.val, 128 * 3] :=
  by unfold k0_off5; dsimp only; rw [trip_row]
theorem off6_eq (k : Fin k0_t1_loop.trips) : k0_off6 k = ![32 * k.val, 128 * 4] :=
  by unfold k0_off6; dsimp only; rw [trip_row]
theorem off7_eq (k : Fin k0_t1_loop.trips) : k0_off7 k = ![32 * k.val, 128 * 5] :=
  by unfold k0_off7; dsimp only; rw [trip_row]
theorem off8_eq (k : Fin k0_t1_loop.trips) : k0_off8 k = ![32 * k.val, 128 * 6] :=
  by unfold k0_off8; dsimp only; rw [trip_row]
theorem off9_eq (k : Fin k0_t1_loop.trips) : k0_off9 k = ![32 * k.val, 128 * 7] :=
  by unfold k0_off9; dsimp only; rw [trip_row]
theorem off10_eq (k : Fin k0_t1_loop.trips) : k0_off10 k = ![32 * k.val, 128 * 8] :=
  by unfold k0_off10; dsimp only; rw [trip_row]
theorem off11_eq (k : Fin k0_t1_loop.trips) : k0_off11 k = ![32 * k.val, 128 * 9] :=
  by unfold k0_off11; dsimp only; rw [trip_row]
theorem off12_eq (k : Fin k0_t1_loop.trips) : k0_off12 k = ![32 * k.val, 128 * 10] :=
  by unfold k0_off12; dsimp only; rw [trip_row]
theorem off13_eq (k : Fin k0_t1_loop.trips) : k0_off13 k = ![32 * k.val, 128 * 11] :=
  by unfold k0_off13; dsimp only; rw [trip_row]
theorem off14_eq (k : Fin k0_t1_loop.trips) : k0_off14 k = ![32 * k.val, 128 * 12] :=
  by unfold k0_off14; dsimp only; rw [trip_row]
theorem off15_eq (k : Fin k0_t1_loop.trips) : k0_off15 k = ![32 * k.val, 128 * 13] :=
  by unfold k0_off15; dsimp only; rw [trip_row]
theorem off16_eq (k : Fin k0_t1_loop.trips) : k0_off16 k = ![32 * k.val, 128 * 14] :=
  by unfold k0_off16; dsimp only; rw [trip_row]
theorem off17_eq (k : Fin k0_t1_loop.trips) : k0_off17 k = ![32 * k.val, 128 * 15] :=
  by unfold k0_off17; dsimp only; rw [trip_row]
theorem off18_eq (k : Fin k0_t1_loop.trips) : k0_off18 k = ![32 * k.val, 128 * 16] :=
  by unfold k0_off18; dsimp only; rw [trip_row]
theorem off19_eq (k : Fin k0_t1_loop.trips) : k0_off19 k = ![32 * k.val, 128 * 17] :=
  by unfold k0_off19; dsimp only; rw [trip_row]
theorem off20_eq (k : Fin k0_t1_loop.trips) : k0_off20 k = ![32 * k.val, 128 * 18] :=
  by unfold k0_off20; dsimp only; rw [trip_row]
theorem off21_eq (k : Fin k0_t1_loop.trips) : k0_off21 k = ![32 * k.val, 128 * 19] :=
  by unfold k0_off21; dsimp only; rw [trip_row]
theorem off22_eq (k : Fin k0_t1_loop.trips) : k0_off22 k = ![32 * k.val, 128 * 20] :=
  by unfold k0_off22; dsimp only; rw [trip_row]
theorem off23_eq (k : Fin k0_t1_loop.trips) : k0_off23 k = ![32 * k.val, 128 * 21] :=
  by unfold k0_off23; dsimp only; rw [trip_row]
theorem off24_eq (k : Fin k0_t1_loop.trips) : k0_off24 k = ![32 * k.val, 128 * 22] :=
  by unfold k0_off24; dsimp only; rw [trip_row]
theorem off25_eq (k : Fin k0_t1_loop.trips) : k0_off25 k = ![32 * k.val, 128 * 23] :=
  by unfold k0_off25; dsimp only; rw [trip_row]
theorem off26_eq (k : Fin k0_t1_loop.trips) : k0_off26 k = ![32 * k.val, 128 * 24] :=
  by unfold k0_off26; dsimp only; rw [trip_row]
theorem off27_eq (k : Fin k0_t1_loop.trips) : k0_off27 k = ![32 * k.val, 128 * 25] :=
  by unfold k0_off27; dsimp only; rw [trip_row]
theorem off28_eq (k : Fin k0_t1_loop.trips) : k0_off28 k = ![32 * k.val, 128 * 26] :=
  by unfold k0_off28; dsimp only; rw [trip_row]
theorem off29_eq (k : Fin k0_t1_loop.trips) : k0_off29 k = ![32 * k.val, 128 * 27] :=
  by unfold k0_off29; dsimp only; rw [trip_row]
theorem off30_eq (k : Fin k0_t1_loop.trips) : k0_off30 k = ![32 * k.val, 128 * 28] :=
  by unfold k0_off30; dsimp only; rw [trip_row]
theorem off31_eq (k : Fin k0_t1_loop.trips) : k0_off31 k = ![32 * k.val, 128 * 29] :=
  by unfold k0_off31; dsimp only; rw [trip_row]
theorem off32_eq (k : Fin k0_t1_loop.trips) : k0_off32 k = ![32 * k.val, 128 * 30] :=
  by unfold k0_off32; dsimp only; rw [trip_row]
theorem off33_eq (k : Fin k0_t1_loop.trips) : k0_off33 k = ![32 * k.val, 128 * 31] :=
  by unfold k0_off33; dsimp only; rw [trip_row]
theorem off34_eq (k : Fin k0_t1_loop.trips) : k0_off34 k = ![32 * k.val, 128 * 32] :=
  by unfold k0_off34; dsimp only; rw [trip_row]
theorem off35_eq (k : Fin k0_t1_loop.trips) : k0_off35 k = ![32 * k.val, 128 * 33] :=
  by unfold k0_off35; dsimp only; rw [trip_row]
theorem off36_eq (k : Fin k0_t1_loop.trips) : k0_off36 k = ![32 * k.val, 128 * 34] :=
  by unfold k0_off36; dsimp only; rw [trip_row]
theorem off37_eq (k : Fin k0_t1_loop.trips) : k0_off37 k = ![32 * k.val, 128 * 35] :=
  by unfold k0_off37; dsimp only; rw [trip_row]
theorem off38_eq (k : Fin k0_t1_loop.trips) : k0_off38 k = ![32 * k.val, 128 * 36] :=
  by unfold k0_off38; dsimp only; rw [trip_row]
theorem off39_eq (k : Fin k0_t1_loop.trips) : k0_off39 k = ![32 * k.val, 128 * 37] :=
  by unfold k0_off39; dsimp only; rw [trip_row]
theorem off40_eq (k : Fin k0_t1_loop.trips) : k0_off40 k = ![32 * k.val, 128 * 38] :=
  by unfold k0_off40; dsimp only; rw [trip_row]
theorem off41_eq (k : Fin k0_t1_loop.trips) : k0_off41 k = ![32 * k.val, 128 * 39] :=
  by unfold k0_off41; dsimp only; rw [trip_row]
theorem off42_eq (k : Fin k0_t1_loop.trips) : k0_off42 k = ![32 * k.val, 128 * 40] :=
  by unfold k0_off42; dsimp only; rw [trip_row]
theorem off43_eq (k : Fin k0_t1_loop.trips) : k0_off43 k = ![32 * k.val, 128 * 41] :=
  by unfold k0_off43; dsimp only; rw [trip_row]
theorem off44_eq (k : Fin k0_t1_loop.trips) : k0_off44 k = ![32 * k.val, 128 * 42] :=
  by unfold k0_off44; dsimp only; rw [trip_row]
theorem off45_eq (k : Fin k0_t1_loop.trips) : k0_off45 k = ![32 * k.val, 128 * 43] :=
  by unfold k0_off45; dsimp only; rw [trip_row]
theorem off46_eq (k : Fin k0_t1_loop.trips) : k0_off46 k = ![32 * k.val, 128 * 44] :=
  by unfold k0_off46; dsimp only; rw [trip_row]
theorem off47_eq (k : Fin k0_t1_loop.trips) : k0_off47 k = ![32 * k.val, 128 * 45] :=
  by unfold k0_off47; dsimp only; rw [trip_row]
theorem off48_eq (k : Fin k0_t1_loop.trips) : k0_off48 k = ![32 * k.val, 128 * 46] :=
  by unfold k0_off48; dsimp only; rw [trip_row]
theorem off49_eq (k : Fin k0_t1_loop.trips) : k0_off49 k = ![32 * k.val, 128 * 47] :=
  by unfold k0_off49; dsimp only; rw [trip_row]
theorem off50_eq (k : Fin k0_t1_loop.trips) : k0_off50 k = ![32 * k.val, 128 * 48] :=
  by unfold k0_off50; dsimp only; rw [trip_row]
theorem off51_eq (k : Fin k0_t1_loop.trips) : k0_off51 k = ![32 * k.val, 128 * 49] :=
  by unfold k0_off51; dsimp only; rw [trip_row]
theorem off52_eq (k : Fin k0_t1_loop.trips) : k0_off52 k = ![32 * k.val, 128 * 50] :=
  by unfold k0_off52; dsimp only; rw [trip_row]
theorem off53_eq (k : Fin k0_t1_loop.trips) : k0_off53 k = ![32 * k.val, 128 * 51] :=
  by unfold k0_off53; dsimp only; rw [trip_row]
theorem off54_eq (k : Fin k0_t1_loop.trips) : k0_off54 k = ![32 * k.val, 128 * 52] :=
  by unfold k0_off54; dsimp only; rw [trip_row]
theorem off55_eq (k : Fin k0_t1_loop.trips) : k0_off55 k = ![32 * k.val, 128 * 53] :=
  by unfold k0_off55; dsimp only; rw [trip_row]
theorem off56_eq (k : Fin k0_t1_loop.trips) : k0_off56 k = ![32 * k.val, 128 * 54] :=
  by unfold k0_off56; dsimp only; rw [trip_row]
theorem off57_eq (k : Fin k0_t1_loop.trips) : k0_off57 k = ![32 * k.val, 128 * 55] :=
  by unfold k0_off57; dsimp only; rw [trip_row]
theorem off58_eq (k : Fin k0_t1_loop.trips) : k0_off58 k = ![32 * k.val, 128 * 56] :=
  by unfold k0_off58; dsimp only; rw [trip_row]
theorem off59_eq (k : Fin k0_t1_loop.trips) : k0_off59 k = ![32 * k.val, 128 * 57] :=
  by unfold k0_off59; dsimp only; rw [trip_row]
theorem off60_eq (k : Fin k0_t1_loop.trips) : k0_off60 k = ![32 * k.val, 128 * 58] :=
  by unfold k0_off60; dsimp only; rw [trip_row]
theorem off61_eq (k : Fin k0_t1_loop.trips) : k0_off61 k = ![32 * k.val, 128 * 59] :=
  by unfold k0_off61; dsimp only; rw [trip_row]
theorem off62_eq (k : Fin k0_t1_loop.trips) : k0_off62 k = ![32 * k.val, 128 * 60] :=
  by unfold k0_off62; dsimp only; rw [trip_row]
theorem off63_eq (k : Fin k0_t1_loop.trips) : k0_off63 k = ![32 * k.val, 128 * 61] :=
  by unfold k0_off63; dsimp only; rw [trip_row]
theorem off64_eq (k : Fin k0_t1_loop.trips) : k0_off64 k = ![32 * k.val, 128 * 62] :=
  by unfold k0_off64; dsimp only; rw [trip_row]
theorem off65_eq (k : Fin k0_t1_loop.trips) : k0_off65 k = ![32 * k.val, 128 * 63] :=
  by unfold k0_off65; dsimp only; rw [trip_row]
theorem off66_eq (k : Fin k0_t1_loop.trips) : k0_off66 k = ![32 * k.val, 0] :=
  by unfold k0_off66; dsimp only; rw [trip_row]

/-! ## The loads of a trip -/

section
variable (i : grid0.Coords) (arg7 : Memref sig .tc .vmem S1x8192 .bf16) (arg8 : Memref sig .tc .vmem S512x8192 .bf16) (k0_h2 : k0_cond2 i = 1#1)
  (X7 : BufTy.Contents (Elt Ideal) arg7.view.ty) (X8 : BufTy.Contents (Elt Ideal) arg8.view.ty) (k : Fin k0_t1_loop.trips)

/-- A row of the output block, as the norm sees it. -/
def hrow (r : ℕ) : ℕ → EReal := at2 (a := 512) (b := 8192) (arg8.view.read (Elt Ideal) X8) r
/-- The weights of the norm. -/
def grow : ℕ → EReal := at2 (a := 1) (b := 8192) (arg7.view.read (Elt Ideal) X7) 0

theorem ld8 {off : Fin 2 → ℕ} (inb : ∀ a, off a + S32x128.size a ≤ S512x8192.size a) (c : ℕ) (ho : off = ![32 * k.val, 128 * c]) (j : S32x128.Idx) :
    (View.readAt (Elt Ideal) arg8.view (Rect.unit (s := S512x8192) off S32x128.size inb).toLoadRect X8 j : EReal)
      = hrow arg8 X8 (32 * k.val + (j 0).val) (128 * c + (j 1).val) := by
  subst ho
  refine (at2_of (a := 512) (b := 8192) (arg8.view.read (Elt Ideal) X8) ((Rect.unit (s := S512x8192) _ S32x128.size inb).emb j) ?_ ?_).symm
  · show 32 * k.val + 1 * (j 0).val = _
    omega
  · show 128 * c + 1 * (j 1).val = _
    omega
theorem ld7 {n : ℕ} (inb : ∀ a, (![0, n] : Fin 2 → ℕ) a + (![1, 128] : Fin 2 → ℕ) a ≤ S1x8192.size a) (j : (⟨2, ![1, 128]⟩ : Shape).Idx) :
    (View.readAt (Elt Ideal) arg7.view (Rect.unit (s := S1x8192) ![0, n] ![1, 128] inb).toLoadRect X7 j : EReal)
      = grow arg7 X7 (n + (j 1).val) := by
  refine (at2_of (a := 1) (b := 8192) (arg7.view.read (Elt Ideal) X7) ((Rect.unit (s := S1x8192) _ S1x128.size inb).emb j) ?_ ?_).symm
  · show 0 + 1 * (j 0).val = _
    have := idx2_lt0 j
    omega
  · show n + 1 * (j 1).val = _
    omega
theorem ld8_2 (inb : ∀ a, (k0_off2 k) a + (![32, 128] : Fin 2 → ℕ) a ≤ S512x8192.size a) (j : (⟨2, ![32, 128]⟩ : Shape).Idx) :
    (View.readAt (Elt Ideal) arg8.view (Rect.unit (s := S512x8192) (k0_off2 k) ![32, 128] inb).toLoadRect X8 j : EReal)
      = hrow arg8 X8 (32 * k.val + (j 0).val) (128 * 0 + (j 1).val) := ld8 arg8 X8 k inb 0 (off2_eq k) j
theorem ld8_3 (inb : ∀ a, (k0_off3 k) a + (![32, 128] : Fin 2 → ℕ) a ≤ S512x8192.size a) (j : (⟨2, ![32, 128]⟩ : Shape).Idx) :
    (View.readAt (Elt Ideal) arg8.view (Rect.unit (s := S512x8192) (k0_off3 k) ![32, 128] inb).toLoadRect X8 j : EReal)
      = hrow arg8 X8 (32 * k.val + (j 0).val) (128 * 1 + (j 1).val) := ld8 arg8 X8 k inb 1 (off3_eq k) j
theorem ld8_4 (inb : ∀ a, (k0_off4 k) a + (![32, 128] : Fin 2 → ℕ) a ≤ S512x8192.size a) (j : (⟨2, ![32, 128]⟩ : Shape).Idx) :
    (View.readAt (Elt Ideal) arg8.view (Rect.unit (s := S512x8192) (k0_off4 k) ![32, 128] inb).toLoadRect X8 j : EReal)
      = hrow arg8 X8 (32 * k.val + (j 0).val) (128 * 2 + (j 1).val) := ld8 arg8 X8 k inb 2 (off4_eq k) j
theorem ld8_5 (inb : ∀ a, (k0_off5 k) a + (![32, 128] : Fin 2 → ℕ) a ≤ S512x8192.size a) (j : (⟨2, ![32, 128]⟩ : Shape).Idx) :
    (View.readAt (Elt Ideal) arg8.view (Rect.unit (s := S512x8192) (k0_off5 k) ![32, 128] inb).toLoadRect X8 j : EReal)
      = hrow arg8 X8 (32 * k.val + (j 0).val) (128 * 3 + (j 1).val) := ld8 arg8 X8 k inb 3 (off5_eq k) j
theorem ld8_6 (inb : ∀ a, (k0_off6 k) a + (![32, 128] : Fin 2 → ℕ) a ≤ S512x8192.size a) (j : (⟨2, ![32, 128]⟩ : Shape).Idx) :
    (View.readAt (Elt Ideal) arg8.view (Rect.unit (s := S512x8192) (k0_off6 k) ![32, 128] inb).toLoadRect X8 j : EReal)
      = hrow arg8 X8 (32 * k.val + (j 0).val) (128 * 4 + (j 1).val) := ld8 arg8 X8 k inb 4 (off6_eq k) j
theorem ld8_7 (inb : ∀ a, (k0_off7 k) a + (![32, 128] : Fin 2 → ℕ) a ≤ S512x8192.size a) (j : (⟨2, ![32, 128]⟩ : Shape).Idx) :
    (View.readAt (Elt Ideal) arg8.view (Rect.unit (s := S512x8192) (k0_off7 k) ![32, 128] inb).toLoadRect X8 j : EReal)
      = hrow arg8 X8 (32 * k.val + (j 0).val) (128 * 5 + (j 1).val) := ld8 arg8 X8 k inb 5 (off7_eq k) j
theorem ld8_8 (inb : ∀ a, (k0_off8 k) a + (![32, 128] : Fin 2 → ℕ) a ≤ S512x8192.size a) (j : (⟨2, ![32, 128]⟩ : Shape).Idx) :
    (View.readAt (Elt Ideal) arg8.view (Rect.unit (s := S512x8192) (k0_off8 k) ![32, 128] inb).toLoadRect X8 j : EReal)
      = hrow arg8 X8 (32 * k.val + (j 0).val) (128 * 6 + (j 1).val) := ld8 arg8 X8 k inb 6 (off8_eq k) j
theorem ld8_9 (inb : ∀ a, (k0_off9 k) a + (![32, 128] : Fin 2 → ℕ) a ≤ S512x8192.size a) (j : (⟨2, ![32, 128]⟩ : Shape).Idx) :
    (View.readAt (Elt Ideal) arg8.view (Rect.unit (s := S512x8192) (k0_off9 k) ![32, 128] inb).toLoadRect X8 j : EReal)
      = hrow arg8 X8 (32 * k.val + (j 0).val) (128 * 7 + (j 1).val) := ld8 arg8 X8 k inb 7 (off9_eq k) j
theorem ld8_10 (inb : ∀ a, (k0_off10 k) a + (![32, 128] : Fin 2 → ℕ) a ≤ S512x8192.size a) (j : (⟨2, ![32, 128]⟩ : Shape).Idx) :
    (View.readAt (Elt Ideal) arg8.view (Rect.unit (s := S512x8192) (k0_off10 k) ![32, 128] inb).toLoadRect X8 j : EReal)
      = hrow arg8 X8 (32 * k.val + (j 0).val) (128 * 8 + (j 1).val) := ld8 arg8 X8 k inb 8 (off10_eq k) j
theorem ld8_11 (inb : ∀ a, (k0_off11 k) a + (![32, 128] : Fin 2 → ℕ) a ≤ S512x8192.size a) (j : (⟨2, ![32, 128]⟩ : Shape).Idx) :
    (View.readAt (Elt Ideal) arg8.view (Rect.unit (s := S512x8192) (k0_off11 k) ![32, 128] inb).toLoadRect X8 j : EReal)
      = hrow arg8 X8 (32 * k.val + (j 0).val) (128 * 9 + (j 1).val) := ld8 arg8 X8 k inb 9 (off11_eq k) j
theorem ld8_12 (inb : ∀ a, (k0_off12 k) a + (![32, 128] : Fin 2 → ℕ) a ≤ S512x8192.size a) (j : (⟨2, ![32, 128]⟩ : Shape).Idx) :
    (View.readAt (Elt Ideal) arg8.view (Rect.unit (s := S512x8192) (k0_off12 k) ![32, 128] inb).toLoadRect X8 j : EReal)
      = hrow arg8 X8 (32 * k.val + (j 0).val) (128 * 10 + (j 1).val) := ld8 arg8 X8 k inb 10 (off12_eq k) j
theorem ld8_13 (inb : ∀ a, (k0_off13 k) a + (![32, 128] : Fin 2 → ℕ) a ≤ S512x8192.size a) (j : (⟨2, ![32, 128]⟩ : Shape).Idx) :
    (View.readAt (Elt Ideal) arg8.view (Rect.unit (s := S512x8192) (k0_off13 k) ![32, 128] inb).toLoadRect X8 j : EReal)
      = hrow arg8 X8 (32 * k.val + (j 0).val) (128 * 11 + (j 1).val) := ld8 arg8 X8 k inb 11 (off13_eq k) j
theorem ld8_14 (inb : ∀ a, (k0_off14 k) a + (![32, 128] : Fin 2 → ℕ) a ≤ S512x8192.size a) (j : (⟨2, ![32, 128]⟩ : Shape).Idx) :
    (View.readAt (Elt Ideal) arg8.view (Rect.unit (s := S512x8192) (k0_off14 k) ![32, 128] inb).toLoadRect X8 j : EReal)
      = hrow arg8 X8 (32 * k.val + (j 0).val) (128 * 12 + (j 1).val) := ld8 arg8 X8 k inb 12 (off14_eq k) j
theorem ld8_15 (inb : ∀ a, (k0_off15 k) a + (![32, 128] : Fin 2 → ℕ) a ≤ S512x8192.size a) (j : (⟨2, ![32, 128]⟩ : Shape).Idx) :
    (View.readAt (Elt Ideal) arg8.view (Rect.unit (s := S512x8192) (k0_off15 k) ![32, 128] inb).toLoadRect X8 j : EReal)
      = hrow arg8 X8 (32 * k.val + (j 0).val) (128 * 13 + (j 1).val) := ld8 arg8 X8 k inb 13 (off15_eq k) j
theorem ld8_16 (inb : ∀ a, (k0_off16 k) a + (![32, 128] : Fin 2 → ℕ) a ≤ S512x8192.size a) (j : (⟨2, ![32, 128]⟩ : Shape).Idx) :
    (View.readAt (Elt Ideal) arg8.view (Rect.unit (s := S512x8192) (k0_off16 k) ![32, 128] inb).toLoadRect X8 j : EReal)
      = hrow arg8 X8 (32 * k.val + (j 0).val) (128 * 14 + (j 1).val) := ld8 arg8 X8 k inb 14 (off16_eq k) j
theorem ld8_17 (inb : ∀ a, (k0_off17 k) a + (![32, 128] : Fin 2 → ℕ) a ≤ S512x8192.size a) (j : (⟨2, ![32, 128]⟩ : Shape).Idx) :
    (View.readAt (Elt Ideal) arg8.view (Rect.unit (s := S512x8192) (k0_off17 k) ![32, 128] inb).toLoadRect X8 j : EReal)
      = hrow arg8 X8 (32 * k.val + (j 0).val) (128 * 15 + (j 1).val) := ld8 arg8 X8 k inb 15 (off17_eq k) j
theorem ld8_18 (inb : ∀ a, (k0_off18 k) a + (![32, 128] : Fin 2 → ℕ) a ≤ S512x8192.size a) (j : (⟨2, ![32, 128]⟩ : Shape).Idx) :
    (View.readAt (Elt Ideal) arg8.view (Rect.unit (s := S512x8192) (k0_off18 k) ![32, 128] inb).toLoadRect X8 j : EReal)
      = hrow arg8 X8 (32 * k.val + (j 0).val) (128 * 16 + (j 1).val) := ld8 arg8 X8 k inb 16 (off18_eq k) j
theorem ld8_19 (inb : ∀ a, (k0_off19 k) a + (![32, 128] : Fin 2 → ℕ) a ≤ S512x8192.size a) (j : (⟨2, ![32, 128]⟩ : Shape).Idx) :
    (View.readAt (Elt Ideal) arg8.view (Rect.unit (s := S512x8192) (k0_off19 k) ![32, 128] inb).toLoadRect X8 j : EReal)
      = hrow arg8 X8 (32 * k.val + (j 0).val) (128 * 17 + (j 1).val) := ld8 arg8 X8 k inb 17 (off19_eq k) j
theorem ld8_20 (inb : ∀ a, (k0_off20 k) a + (![32, 128] : Fin 2 → ℕ) a ≤ S512x8192.size a) (j : (⟨2, ![32, 128]⟩ : Shape).Idx) :
    (View.readAt (Elt Ideal) arg8.view (Rect.unit (s := S512x8192) (k0_off20 k) ![32, 128] inb).toLoadRect X8 j : EReal)
      = hrow arg8 X8 (32 * k.val + (j 0).val) (128 * 18 + (j 1).val) := ld8 arg8 X8 k inb 18 (off20_eq k) j
theorem ld8_21 (inb : ∀ a, (k0_off21 k) a + (![32, 128] : Fin 2 → ℕ) a ≤ S512x8192.size a) (j : (⟨2, ![32, 128]⟩ : Shape).Idx) :
    (View.readAt (Elt Ideal) arg8.view (Rect.unit (s := S512x8192) (k0_off21 k) ![32, 128] inb).toLoadRect X8 j : EReal)
      = hrow arg8 X8 (32 * k.val + (j 0).val) (128 * 19 + (j 1).val) := ld8 arg8 X8 k inb 19 (off21_eq k) j
theorem ld8_22 (inb : ∀ a, (k0_off22 k) a + (![32, 128] : Fin 2 → ℕ) a ≤ S512x8192.size a) (j : (⟨2, ![32, 128]⟩ : Shape).Idx) :
    (View.readAt (Elt Ideal) arg8.view (Rect.unit (s := S512x8192) (k0_off22 k) ![32, 128] inb).toLoadRect X8 j : EReal)
      = hrow arg8 X8 (32 * k.val + (j 0).val) (128 * 20 + (j 1).val) := ld8 arg8 X8 k inb 20 (off22_eq k) j
theorem ld8_23 (inb : ∀ a, (k0_off23 k) a + (![32, 128] : Fin 2 → ℕ) a ≤ S512x8192.size a) (j : (⟨2, ![32, 128]⟩ : Shape).Idx) :
    (View.readAt (Elt Ideal) arg8.view (Rect.unit (s := S512x8192) (k0_off23 k) ![32, 128] inb).toLoadRect X8 j : EReal)
      = hrow arg8 X8 (32 * k.val + (j 0).val) (128 * 21 + (j 1).val) := ld8 arg8 X8 k inb 21 (off23_eq k) j
theorem ld8_24 (inb : ∀ a, (k0_off24 k) a + (![32, 128] : Fin 2 → ℕ) a ≤ S512x8192.size a) (j : (⟨2, ![32, 128]⟩ : Shape).Idx) :
    (View.readAt (Elt Ideal) arg8.view (Rect.unit (s := S512x8192) (k0_off24 k) ![32, 128] inb).toLoadRect X8 j : EReal)
      = hrow arg8 X8 (32 * k.val + (j 0).val) (128 * 22 + (j 1).val) := ld8 arg8 X8 k inb 22 (off24_eq k) j
theorem ld8_25 (inb : ∀ a, (k0_off25 k) a + (![32, 128] : Fin 2 → ℕ) a ≤ S512x8192.size a) (j : (⟨2, ![32, 128]⟩ : Shape).Idx) :
    (View.readAt (Elt Ideal) arg8.view (Rect.unit (s := S512x8192) (k0_off25 k) ![32, 128] inb).toLoadRect X8 j : EReal)
      = hrow arg8 X8 (32 * k.val + (j 0).val) (128 * 23 + (j 1).val) := ld8 arg8 X8 k inb 23 (off25_eq k) j
theorem ld8_26 (inb : ∀ a, (k0_off26 k) a + (![32, 128] : Fin 2 → ℕ) a ≤ S512x8192.size a) (j : (⟨2, ![32, 128]⟩ : Shape).Idx) :
    (View.readAt (Elt Ideal) arg8.view (Rect.unit (s := S512x8192) (k0_off26 k) ![32, 128] inb).toLoadRect X8 j : EReal)
      = hrow arg8 X8 (32 * k.val + (j 0).val) (128 * 24 + (j 1).val) := ld8 arg8 X8 k inb 24 (off26_eq k) j
theorem ld8_27 (inb : ∀ a, (k0_off27 k) a + (![32, 128] : Fin 2 → ℕ) a ≤ S512x8192.size a) (j : (⟨2, ![32, 128]⟩ : Shape).Idx) :
    (View.readAt (Elt Ideal) arg8.view (Rect.unit (s := S512x8192) (k0_off27 k) ![32, 128] inb).toLoadRect X8 j : EReal)
      = hrow arg8 X8 (32 * k.val + (j 0).val) (128 * 25 + (j 1).val) := ld8 arg8 X8 k inb 25 (off27_eq k) j
theorem ld8_28 (inb : ∀ a, (k0_off28 k) a + (![32, 128] : Fin 2 → ℕ) a ≤ S512x8192.size a) (j : (⟨2, ![32, 128]⟩ : Shape).Idx) :
    (View.readAt (Elt Ideal) arg8.view (Rect.unit (s := S512x8192) (k0_off28 k) ![32, 128] inb).toLoadRect X8 j : EReal)
      = hrow arg8 X8 (32 * k.val + (j 0).val) (128 * 26 + (j 1).val) := ld8 arg8 X8 k inb 26 (off28_eq k) j
theorem ld8_29 (inb : ∀ a, (k0_off29 k) a + (![32, 128] : Fin 2 → ℕ) a ≤ S512x8192.size a) (j : (⟨2, ![32, 128]⟩ : Shape).Idx) :
    (View.readAt (Elt Ideal) arg8.view (Rect.unit (s := S512x8192) (k0_off29 k) ![32, 128] inb).toLoadRect X8 j : EReal)
      = hrow arg8 X8 (32 * k.val + (j 0).val) (128 * 27 + (j 1).val) := ld8 arg8 X8 k inb 27 (off29_eq k) j
theorem ld8_30 (inb : ∀ a, (k0_off30 k) a + (![32, 128] : Fin 2 → ℕ) a ≤ S512x8192.size a) (j : (⟨2, ![32, 128]⟩ : Shape).Idx) :
    (View.readAt (Elt Ideal) arg8.view (Rect.unit (s := S512x8192) (k0_off30 k) ![32, 128] inb).toLoadRect X8 j : EReal)
      = hrow arg8 X8 (32 * k.val + (j 0).val) (128 * 28 + (j 1).val) := ld8 arg8 X8 k inb 28 (off30_eq k) j
theorem ld8_31 (inb : ∀ a, (k0_off31 k) a + (![32, 128] : Fin 2 → ℕ) a ≤ S512x8192.size a) (j : (⟨2, ![32, 128]⟩ : Shape).Idx) :
    (View.readAt (Elt Ideal) arg8.view (Rect.unit (s := S512x8192) (k0_off31 k) ![32, 128] inb).toLoadRect X8 j : EReal)
      = hrow arg8 X8 (32 * k.val + (j 0).val) (128 * 29 + (j 1).val) := ld8 arg8 X8 k inb 29 (off31_eq k) j
theorem ld8_32 (inb : ∀ a, (k0_off32 k) a + (![32, 128] : Fin 2 → ℕ) a ≤ S512x8192.size a) (j : (⟨2, ![32, 128]⟩ : Shape).Idx) :
    (View.readAt (Elt Ideal) arg8.view (Rect.unit (s := S512x8192) (k0_off32 k) ![32, 128] inb).toLoadRect X8 j : EReal)
      = hrow arg8 X8 (32 * k.val + (j 0).val) (128 * 30 + (j 1).val) := ld8 arg8 X8 k inb 30 (off32_eq k) j
theorem ld8_33 (inb : ∀ a, (k0_off33 k) a + (![32, 128] : Fin 2 → ℕ) a ≤ S512x8192.size a) (j : (⟨2, ![32, 128]⟩ : Shape).Idx) :
    (View.readAt (Elt Ideal) arg8.view (Rect.unit (s := S512x8192) (k0_off33 k) ![32, 128] inb).toLoadRect X8 j : EReal)
      = hrow arg8 X8 (32 * k.val + (j 0).val) (128 * 31 + (j 1).val) := ld8 arg8 X8 k inb 31 (off33_eq k) j
theorem ld8_34 (inb : ∀ a, (k0_off34 k) a + (![32, 128] : Fin 2 → ℕ) a ≤ S512x8192.size a) (j : (⟨2, ![32, 128]⟩ : Shape).Idx) :
    (View.readAt (Elt Ideal) arg8.view (Rect.unit (s := S512x8192) (k0_off34 k) ![32, 128] inb).toLoadRect X8 j : EReal)
      = hrow arg8 X8 (32 * k.val + (j 0).val) (128 * 32 + (j 1).val) := ld8 arg8 X8 k inb 32 (off34_eq k) j
theorem ld8_35 (inb : ∀ a, (k0_off35 k) a + (![32, 128] : Fin 2 → ℕ) a ≤ S512x8192.size a) (j : (⟨2, ![32, 128]⟩ : Shape).Idx) :
    (View.readAt (Elt Ideal) arg8.view (Rect.unit (s := S512x8192) (k0_off35 k) ![32, 128] inb).toLoadRect X8 j : EReal)
      = hrow arg8 X8 (32 * k.val + (j 0).val) (128 * 33 + (j 1).val) := ld8 arg8 X8 k inb 33 (off35_eq k) j
theorem ld8_36 (inb : ∀ a, (k0_off36 k) a + (![32, 128] : Fin 2 → ℕ) a ≤ S512x8192.size a) (j : (⟨2, ![32, 128]⟩ : Shape).Idx) :
    (View.readAt (Elt Ideal) arg8.view (Rect.unit (s := S512x8192) (k0_off36 k) ![32, 128] inb).toLoadRect X8 j : EReal)
      = hrow arg8 X8 (32 * k.val + (j 0).val) (128 * 34 + (j 1).val) := ld8 arg8 X8 k inb 34 (off36_eq k) j
theorem ld8_37 (inb : ∀ a, (k0_off37 k) a + (![32, 128] : Fin 2 → ℕ) a ≤ S512x8192.size a) (j : (⟨2, ![32, 128]⟩ : Shape).Idx) :
    (View.readAt (Elt Ideal) arg8.view (Rect.unit (s := S512x8192) (k0_off37 k) ![32, 128] inb).toLoadRect X8 j : EReal)
      = hrow arg8 X8 (32 * k.val + (j 0).val) (128 * 35 + (j 1).val) := ld8 arg8 X8 k inb 35 (off37_eq k) j
theorem ld8_38 (inb : ∀ a, (k0_off38 k) a + (![32, 128] : Fin 2 → ℕ) a ≤ S512x8192.size a) (j : (⟨2, ![32, 128]⟩ : Shape).Idx) :
    (View.readAt (Elt Ideal) arg8.view (Rect.unit (s := S512x8192) (k0_off38 k) ![32, 128] inb).toLoadRect X8 j : EReal)
      = hrow arg8 X8 (32 * k.val + (j 0).val) (128 * 36 + (j 1).val) := ld8 arg8 X8 k inb 36 (off38_eq k) j
theorem ld8_39 (inb : ∀ a, (k0_off39 k) a + (![32, 128] : Fin 2 → ℕ) a ≤ S512x8192.size a) (j : (⟨2, ![32, 128]⟩ : Shape).Idx) :
    (View.readAt (Elt Ideal) arg8.view (Rect.unit (s := S512x8192) (k0_off39 k) ![32, 128] inb).toLoadRect X8 j : EReal)
      = hrow arg8 X8 (32 * k.val + (j 0).val) (128 * 37 + (j 1).val) := ld8 arg8 X8 k inb 37 (off39_eq k) j
theorem ld8_40 (inb : ∀ a, (k0_off40 k) a + (![32, 128] : Fin 2 → ℕ) a ≤ S512x8192.size a) (j : (⟨2, ![32, 128]⟩ : Shape).Idx) :
    (View.readAt (Elt Ideal) arg8.view (Rect.unit (s := S512x8192) (k0_off40 k) ![32, 128] inb).toLoadRect X8 j : EReal)
      = hrow arg8 X8 (32 * k.val + (j 0).val) (128 * 38 + (j 1).val) := ld8 arg8 X8 k inb 38 (off40_eq k) j
theorem ld8_41 (inb : ∀ a, (k0_off41 k) a + (![32, 128] : Fin 2 → ℕ) a ≤ S512x8192.size a) (j : (⟨2, ![32, 128]⟩ : Shape).Idx) :
    (View.readAt (Elt Ideal) arg8.view (Rect.unit (s := S512x8192) (k0_off41 k) ![32, 128] inb).toLoadRect X8 j : EReal)
      = hrow arg8 X8 (32 * k.val + (j 0).val) (128 * 39 + (j 1).val) := ld8 arg8 X8 k inb 39 (off41_eq k) j
theorem ld8_42 (inb : ∀ a, (k0_off42 k) a + (![32, 128] : Fin 2 → ℕ) a ≤ S512x8192.size a) (j : (⟨2, ![32, 128]⟩ : Shape).Idx) :
    (View.readAt (Elt Ideal) arg8.view (Rect.unit (s := S512x8192) (k0_off42 k) ![32, 128] inb).toLoadRect X8 j : EReal)
      = hrow arg8 X8 (32 * k.val + (j 0).val) (128 * 40 + (j 1).val) := ld8 arg8 X8 k inb 40 (off42_eq k) j
theorem ld8_43 (inb : ∀ a, (k0_off43 k) a + (![32, 128] : Fin 2 → ℕ) a ≤ S512x8192.size a) (j : (⟨2, ![32, 128]⟩ : Shape).Idx) :
    (View.readAt (Elt Ideal) arg8.view (Rect.unit (s := S512x8192) (k0_off43 k) ![32, 128] inb).toLoadRect X8 j : EReal)
      = hrow arg8 X8 (32 * k.val + (j 0).val) (128 * 41 + (j 1).val) := ld8 arg8 X8 k inb 41 (off43_eq k) j
theorem ld8_44 (inb : ∀ a, (k0_off44 k) a + (![32, 128] : Fin 2 → ℕ) a ≤ S512x8192.size a) (j : (⟨2, ![32, 128]⟩ : Shape).Idx) :
    (View.readAt (Elt Ideal) arg8.view (Rect.unit (s := S512x8192) (k0_off44 k) ![32, 128] inb).toLoadRect X8 j : EReal)
      = hrow arg8 X8 (32 * k.val + (j 0).val) (128 * 42 + (j 1).val) := ld8 arg8 X8 k inb 42 (off44_eq k) j
theorem ld8_45 (inb : ∀ a, (k0_off45 k) a + (![32, 128] : Fin 2 → ℕ) a ≤ S512x8192.size a) (j : (⟨2, ![32, 128]⟩ : Shape).Idx) :
    (View.readAt (Elt Ideal) arg8.view (Rect.unit (s := S512x8192) (k0_off45 k) ![32, 128] inb).toLoadRect X8 j : EReal)
      = hrow arg8 X8 (32 * k.val + (j 0).val) (128 * 43 + (j 1).val) := ld8 arg8 X8 k inb 43 (off45_eq k) j
theorem ld8_46 (inb : ∀ a, (k0_off46 k) a + (![32, 128] : Fin 2 → ℕ) a ≤ S512x8192.size a) (j : (⟨2, ![32, 128]⟩ : Shape).Idx) :
    (View.readAt (Elt Ideal) arg8.view (Rect.unit (s := S512x8192) (k0_off46 k) ![32, 128] inb).toLoadRect X8 j : EReal)
      = hrow arg8 X8 (32 * k.val + (j 0).val) (128 * 44 + (j 1).val) := ld8 arg8 X8 k inb 44 (off46_eq k) j
theorem ld8_47 (inb : ∀ a, (k0_off47 k) a + (![32, 128] : Fin 2 → ℕ) a ≤ S512x8192.size a) (j : (⟨2, ![32, 128]⟩ : Shape).Idx) :
    (View.readAt (Elt Ideal) arg8.view (Rect.unit (s := S512x8192) (k0_off47 k) ![32, 128] inb).toLoadRect X8 j : EReal)
      = hrow arg8 X8 (32 * k.val + (j 0).val) (128 * 45 + (j 1).val) := ld8 arg8 X8 k inb 45 (off47_eq k) j
theorem ld8_48 (inb : ∀ a, (k0_off48 k) a + (![32, 128] : Fin 2 → ℕ) a ≤ S512x8192.size a) (j : (⟨2, ![32, 128]⟩ : Shape).Idx) :
    (View.readAt (Elt Ideal) arg8.view (Rect.unit (s := S512x8192) (k0_off48 k) ![32, 128] inb).toLoadRect X8 j : EReal)
      = hrow arg8 X8 (32 * k.val + (j 0).val) (128 * 46 + (j 1).val) := ld8 arg8 X8 k inb 46 (off48_eq k) j
theorem ld8_49 (inb : ∀ a, (k0_off49 k) a + (![32, 128] : Fin 2 → ℕ) a ≤ S512x8192.size a) (j : (⟨2, ![32, 128]⟩ : Shape).Idx) :
    (View.readAt (Elt Ideal) arg8.view (Rect.unit (s := S512x8192) (k0_off49 k) ![32, 128] inb).toLoadRect X8 j : EReal)
      = hrow arg8 X8 (32 * k.val + (j 0).val) (128 * 47 + (j 1).val) := ld8 arg8 X8 k inb 47 (off49_eq k) j
theorem ld8_50 (inb : ∀ a, (k0_off50 k) a + (![32, 128] : Fin 2 → ℕ) a ≤ S512x8192.size a) (j : (⟨2, ![32, 128]⟩ : Shape).Idx) :
    (View.readAt (Elt Ideal) arg8.view (Rect.unit (s := S512x8192) (k0_off50 k) ![32, 128] inb).toLoadRect X8 j : EReal)
      = hrow arg8 X8 (32 * k.val + (j 0).val) (128 * 48 + (j 1).val) := ld8 arg8 X8 k inb 48 (off50_eq k) j
theorem ld8_51 (inb : ∀ a, (k0_off51 k) a + (![32, 128] : Fin 2 → ℕ) a ≤ S512x8192.size a) (j : (⟨2, ![32, 128]⟩ : Shape).Idx) :
    (View.readAt (Elt Ideal) arg8.view (Rect.unit (s := S512x8192) (k0_off51 k) ![32, 128] inb).toLoadRect X8 j : EReal)
      = hrow arg8 X8 (32 * k.val + (j 0).val) (128 * 49 + (j 1).val) := ld8 arg8 X8 k inb 49 (off51_eq k) j
theorem ld8_52 (inb : ∀ a, (k0_off52 k) a + (![32, 128] : Fin 2 → ℕ) a ≤ S512x8192.size a) (j : (⟨2, ![32, 128]⟩ : Shape).Idx) :
    (View.readAt (Elt Ideal) arg8.view (Rect.unit (s := S512x8192) (k0_off52 k) ![32, 128] inb).toLoadRect X8 j : EReal)
      = hrow arg8 X8 (32 * k.val + (j 0).val) (128 * 50 + (j 1).val) := ld8 arg8 X8 k inb 50 (off52_eq k) j
theorem ld8_53 (inb : ∀ a, (k0_off53 k) a + (![32, 128] : Fin 2 → ℕ) a ≤ S512x8192.size a) (j : (⟨2, ![32, 128]⟩ : Shape).Idx) :
    (View.readAt (Elt Ideal) arg8.view (Rect.unit (s := S512x8192) (k0_off53 k) ![32, 128] inb).toLoadRect X8 j : EReal)
      = hrow arg8 X8 (32 * k.val + (j 0).val) (128 * 51 + (j 1).val) := ld8 arg8 X8 k inb 51 (off53_eq k) j
theorem ld8_54 (inb : ∀ a, (k0_off54 k) a + (![32, 128] : Fin 2 → ℕ) a ≤ S512x8192.size a) (j : (⟨2, ![32, 128]⟩ : Shape).Idx) :
    (View.readAt (Elt Ideal) arg8.view (Rect.unit (s := S512x8192) (k0_off54 k) ![32, 128] inb).toLoadRect X8 j : EReal)
      = hrow arg8 X8 (32 * k.val + (j 0).val) (128 * 52 + (j 1).val) := ld8 arg8 X8 k inb 52 (off54_eq k) j
theorem ld8_55 (inb : ∀ a, (k0_off55 k) a + (![32, 128] : Fin 2 → ℕ) a ≤ S512x8192.size a) (j : (⟨2, ![32, 128]⟩ : Shape).Idx) :
    (View.readAt (Elt Ideal) arg8.view (Rect.unit (s := S512x8192) (k0_off55 k) ![32, 128] inb).toLoadRect X8 j : EReal)
      = hrow arg8 X8 (32 * k.val + (j 0).val) (128 * 53 + (j 1).val) := ld8 arg8 X8 k inb 53 (off55_eq k) j
theorem ld8_56 (inb : ∀ a, (k0_off56 k) a + (![32, 128] : Fin 2 → ℕ) a ≤ S512x8192.size a) (j : (⟨2, ![32, 128]⟩ : Shape).Idx) :
    (View.readAt (Elt Ideal) arg8.view (Rect.unit (s := S512x8192) (k0_off56 k) ![32, 128] inb).toLoadRect X8 j : EReal)
      = hrow arg8 X8 (32 * k.val + (j 0).val) (128 * 54 + (j 1).val) := ld8 arg8 X8 k inb 54 (off56_eq k) j
theorem ld8_57 (inb : ∀ a, (k0_off57 k) a + (![32, 128] : Fin 2 → ℕ) a ≤ S512x8192.size a) (j : (⟨2, ![32, 128]⟩ : Shape).Idx) :
    (View.readAt (Elt Ideal) arg8.view (Rect.unit (s := S512x8192) (k0_off57 k) ![32, 128] inb).toLoadRect X8 j : EReal)
      = hrow arg8 X8 (32 * k.val + (j 0).val) (128 * 55 + (j 1).val) := ld8 arg8 X8 k inb 55 (off57_eq k) j
theorem ld8_58 (inb : ∀ a, (k0_off58 k) a + (![32, 128] : Fin 2 → ℕ) a ≤ S512x8192.size a) (j : (⟨2, ![32, 128]⟩ : Shape).Idx) :
    (View.readAt (Elt Ideal) arg8.view (Rect.unit (s := S512x8192) (k0_off58 k) ![32, 128] inb).toLoadRect X8 j : EReal)
      = hrow arg8 X8 (32 * k.val + (j 0).val) (128 * 56 + (j 1).val) := ld8 arg8 X8 k inb 56 (off58_eq k) j
theorem ld8_59 (inb : ∀ a, (k0_off59 k) a + (![32, 128] : Fin 2 → ℕ) a ≤ S512x8192.size a) (j : (⟨2, ![32, 128]⟩ : Shape).Idx) :
    (View.readAt (Elt Ideal) arg8.view (Rect.unit (s := S512x8192) (k0_off59 k) ![32, 128] inb).toLoadRect X8 j : EReal)
      = hrow arg8 X8 (32 * k.val + (j 0).val) (128 * 57 + (j 1).val) := ld8 arg8 X8 k inb 57 (off59_eq k) j
theorem ld8_60 (inb : ∀ a, (k0_off60 k) a + (![32, 128] : Fin 2 → ℕ) a ≤ S512x8192.size a) (j : (⟨2, ![32, 128]⟩ : Shape).Idx) :
    (View.readAt (Elt Ideal) arg8.view (Rect.unit (s := S512x8192) (k0_off60 k) ![32, 128] inb).toLoadRect X8 j : EReal)
      = hrow arg8 X8 (32 * k.val + (j 0).val) (128 * 58 + (j 1).val) := ld8 arg8 X8 k inb 58 (off60_eq k) j
theorem ld8_61 (inb : ∀ a, (k0_off61 k) a + (![32, 128] : Fin 2 → ℕ) a ≤ S512x8192.size a) (j : (⟨2, ![32, 128]⟩ : Shape).Idx) :
    (View.readAt (Elt Ideal) arg8.view (Rect.unit (s := S512x8192) (k0_off61 k) ![32, 128] inb).toLoadRect X8 j : EReal)
      = hrow arg8 X8 (32 * k.val + (j 0).val) (128 * 59 + (j 1).val) := ld8 arg8 X8 k inb 59 (off61_eq k) j
theorem ld8_62 (inb : ∀ a, (k0_off62 k) a + (![32, 128] : Fin 2 → ℕ) a ≤ S512x8192.size a) (j : (⟨2, ![32, 128]⟩ : Shape).Idx) :
    (View.readAt (Elt Ideal) arg8.view (Rect.unit (s := S512x8192) (k0_off62 k) ![32, 128] inb).toLoadRect X8 j : EReal)
      = hrow arg8 X8 (32 * k.val + (j 0).val) (128 * 60 + (j 1).val) := ld8 arg8 X8 k inb 60 (off62_eq k) j
theorem ld8_63 (inb : ∀ a, (k0_off63 k) a + (![32, 128] : Fin 2 → ℕ) a ≤ S512x8192.size a) (j : (⟨2, ![32, 128]⟩ : Shape).Idx) :
    (View.readAt (Elt Ideal) arg8.view (Rect.unit (s := S512x8192) (k0_off63 k) ![32, 128] inb).toLoadRect X8 j : EReal)
      = hrow arg8 X8 (32 * k.val + (j 0).val) (128 * 61 + (j 1).val) := ld8 arg8 X8 k inb 61 (off63_eq k) j
theorem ld8_64 (inb : ∀ a, (k0_off64 k) a + (![32, 128] : Fin 2 → ℕ) a ≤ S512x8192.size a) (j : (⟨2, ![32, 128]⟩ : Shape).Idx) :
    (View.readAt (Elt Ideal) arg8.view (Rect.unit (s := S512x8192) (k0_off64 k) ![32, 128] inb).toLoadRect X8 j : EReal)
      = hrow arg8 X8 (32 * k.val + (j 0).val) (128 * 62 + (j 1).val) := ld8 arg8 X8 k inb 62 (off64_eq k) j
theorem ld8_65 (inb : ∀ a, (k0_off65 k) a + (![32, 128] : Fin 2 → ℕ) a ≤ S512x8192.size a) (j : (⟨2, ![32, 128]⟩ : Shape).Idx) :
    (View.readAt (Elt Ideal) arg8.view (Rect.unit (s := S512x8192) (k0_off65 k) ![32, 128] inb).toLoadRect X8 j : EReal)
      = hrow arg8 X8 (32 * k.val + (j 0).val) (128 * 63 + (j 1).val) := ld8 arg8 X8 k inb 63 (off65_eq k) j

set_option maxHeartbeats 2000000 in
/-- A row's reciprocal root mean square, from its lanes' sums of squares. -/
theorem r11_eq : trip_k0_t1.sl.r_11 i arg8 k0_h2 X8 k = fun j => rstd (hrow arg8 X8 (32 * k.val + (j 0).val)) := by
  funext j
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, k0_pay71, k0_pay72, k0_pay73, k0_pay74, k0_pay75, k0_pay76, k0_pay77, k0_pay78, k0_pay79, k0_pay80, k0_pay81]
  simp only [rsqrtI, addI, mulI, bcI, unitColI]
  refine (congrArg (fun z => Ideal.rsqrt (z * bits 0x39000000#32 + bits 0x3727C5AC#32)) (laneSumI _ _ _ _ _ _)).trans ?_
  unfold rstd
  have es := (Finset.sum_range (fun l => ∑ c ∈ Finset.range 64, hrow arg8 X8 (32 * k.val + (j 0).val) (128 * c + l) * hrow arg8 X8 (32 * k.val + (j 0).val) (128 * c + l))).symm.trans (sum_chunks (fun d => hrow arg8 X8 (32 * k.val + (j 0).val) d * hrow arg8 X8 (32 * k.val + (j 0).val) d) 128 64)
  refine congrArg (fun z => Ideal.rsqrt (z * bits 0x39000000#32 + bits 0x3727C5AC#32)) (Eq.trans (Finset.sum_congr rfl fun l _ => ?_) es)
  rw [← runSum_eq]
  simp only [addI, mulI, maxI, minI, absI, rsqrtI, extI, truncI, bcI, colS, rowS, unitColI, shapeCast_self, ld7, ld8_2, ld8_3, ld8_4, ld8_5, ld8_6, ld8_7, ld8_8, ld8_9, ld8_10, ld8_11, ld8_12, ld8_13, ld8_14, ld8_15, ld8_16, ld8_17, ld8_18, ld8_19, ld8_20, ld8_21, ld8_22, ld8_23, ld8_24, ld8_25, ld8_26, ld8_27, ld8_28, ld8_29, ld8_30, ld8_31, ld8_32, ld8_33, ld8_34, ld8_35, ld8_36, ld8_37, ld8_38, ld8_39, ld8_40, ld8_41, ld8_42, ld8_43, ld8_44, ld8_45, ld8_46, ld8_47, ld8_48, ld8_49, ld8_50, ld8_51, ld8_52, ld8_53, ld8_54, ld8_55, ld8_56, ld8_57, ld8_58, ld8_59, ld8_60, ld8_61, ld8_62, ld8_63, ld8_64, ld8_65]
  simp only [runSum_succ, runSum_zero, ix2v0, ix2v1, ix1v0, Nat.reduceMul]
  done

set_option maxHeartbeats 4000000 in
/-- A row's largest normalised magnitude over the largest code, from its lanes' maxima. -/
theorem r49_eq : trip_k0_t1.sl.r_49 i arg7 arg8 k0_h2 X7 X8 k = fun j => amax (hrow arg8 X8 (32 * k.val + (j 0).val)) (grow arg7 X7) := by
  funext j
  have h81 := r11_eq i arg8 k0_h2 X8 k
  simp only [trip_k0_t1.sl.r_11] at h81
  simp only [trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, r11_eq, h81]
  simp only [mulI, bcI, unitColI]
  refine (congrArg (fun z => z * bits 0x3B124925#32) (laneMaxI _ _ _ _ _)).trans ?_
  unfold amax
  refine congrArg (fun z => z * bits 0x3B124925#32) (Eq.trans ?_ (amax_lanes (hrow arg8 X8 (32 * k.val + (j 0).val)) (grow arg7 X7)))
  refine Finset.sup_congr rfl fun l _ => ?_
  simp only [addI, mulI, maxI, minI, absI, rsqrtI, extI, truncI, bcI, colS, rowS, unitColI, shapeCast_self, ld7, ld8_2, ld8_3, ld8_4, ld8_5, ld8_6, ld8_7, ld8_8, ld8_9, ld8_10, ld8_11, ld8_12, ld8_13, ld8_14, ld8_15, ld8_16, ld8_17, ld8_18, ld8_19, ld8_20, ld8_21, ld8_22, ld8_23, ld8_24, ld8_25, ld8_26, ld8_27, ld8_28, ld8_29, ld8_30, ld8_31, ld8_32, ld8_33, ld8_34, ld8_35, ld8_36, ld8_37, ld8_38, ld8_39, ld8_40, ld8_41, ld8_42, ld8_43, ld8_44, ld8_45, ld8_46, ld8_47, ld8_48, ld8_49, ld8_50, ld8_51, ld8_52, ld8_53, ld8_54, ld8_55, ld8_56, ld8_57, ld8_58, ld8_59, ld8_60, ld8_61, ld8_62, ld8_63, ld8_64, ld8_65]
  simp only [runMax_succ, runMax_zero, ix2v0, ix2v1, ix1v0, Nat.reduceMul, nrm]

end

end Cert.KernelIdeal.Run

end
-- ==== Proof.KI.Scale.lean ====
/- The power of two of a row, and lists of pieces. -/
module

public import proofs.«01_k».proof.Proof.KI.Trip

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Spec

theorem iota255 (h : S32x255.Iotas .tc 32 [1]) (j : S32x255.Idx) : iota .tc S32x255 32 [1] h j = BitVec.ofNat 32 (j 1).val :=
  iota_single_apply .tc S32x255 32 1 h j

/-- The kernel's power of two, row by row. -/
theorem pay118_apply (A : FVec Ideal S32x1 .f32) (j : S32x1.Idx) : k0_pay118 (F := Ideal) A k0_pay117 j = expK (A j) := by
  have e : shapeCast S32x1 (multiReductionI .add [1] S32 (select (cmpf .olt (broadcastTo S32x255 A broadcasts_S32x1_S32x255) (bitcastToFloat .f32 (shli k0_pay117 (broadcast S32x255 23#32)))) (broadcast S32x255 0#32) (broadcast S32x255 1#32)) 0#32 reduces_S32x255_S32 rfl) shapeCasts_S32_S32x1 j = cntK (A j) := by
    refine (unitColI _ _ _).trans ((laneSumII _ _ _ _).trans ?_)
    unfold cntK
    refine congrArg (fun g => Finset.fold _ _ g Finset.univ) (funext fun l => ?_)
    have eb : broadcastTo S32x255 A broadcasts_S32x1_S32x255 (ix2 (j 0) l) = A j := (colI _ _ _).trans (congrArg A (by
      refine (eq_ix2 j).symm ▸ ?_
      refine congrArg (ix2 (j 0)) (Fin.ext ?_)
      have := idx2_lt1 j
      show 0 = (j 1).val
      omega))
    have ei : iota .tc S32x255 32 [1] iota_S32x255_d1_w32 (ix2 (j 0) l) = BitVec.ofNat 32 l.val := iota255 _ _
    show Scalar.select (Ideal.cmp .olt (broadcastTo S32x255 A broadcasts_S32x1_S32x255 (ix2 (j 0) l)) (bits (IntOp.shli .vector (IntOp.addi (iota .tc S32x255 32 [1] iota_S32x255_d1_w32 (ix2 (j 0) l)) 1#32) 23#32))) 0#32 1#32 = _
    rw [eb, ei]
    rfl
  unfold expK
  rw [← e]
  rfl
theorem pay118_eq (f : ℕ → EReal) : k0_pay118 (F := Ideal) (fun j => f (j 0).val) k0_pay117 = fun j => expK (f (j 0).val) :=
  funext fun j => pay118_apply _ j
theorem pay119_eq (f : ℕ → EReal) : k0_pay119 (F := Ideal) (fun j => f (j 0).val) k0_pay117 = fun j => kscale (f (j 0).val) := by
  funext j
  simp only [k0_pay119, pay118_eq]
  rfl
theorem pay120_eq (f : ℕ → EReal) : k0_pay120 (F := Ideal) (fun j => f (j 0).val) k0_pay117 = fun j => kinv (f (j 0).val) := by
  funext j
  simp only [k0_pay120, pay118_eq]
  rfl

section
variable (i : grid0.Coords) (arg7 : Memref sig .tc .vmem S1x8192 .bf16) (arg8 : Memref sig .tc .vmem S512x8192 .bf16) (k0_h2 : k0_cond2 i = 1#1)
  (X7 : BufTy.Contents (Elt Ideal) arg7.view.ty) (X8 : BufTy.Contents (Elt Ideal) arg8.view.ty) (k : Fin k0_t1_loop.trips)

theorem r50_eq : trip_k0_t1.sl.r_50 i arg7 arg8 k0_h2 X7 X8 k = fun j => kinv (amax (hrow arg8 X8 (32 * k.val + (j 0).val)) (grow arg7 X7)) := by
  simp only [trip_k0_t1.sl.r_50, r49_eq]
  exact pay120_eq (fun r => amax (hrow arg8 X8 (32 * k.val + r)) (grow arg7 X7))

/-- The code of an element of the block. -/
def cd (r d : ℕ) : EReal := clip (nrm (hrow arg8 X8 r) (grow arg7 X7) d * kinv (amax (hrow arg8 X8 r) (grow arg7 X7)))
/-- The scale of a row of the block. -/
def sc (r : ℕ) : EReal := kscale (amax (hrow arg8 X8 r) (grow arg7 X7))

/-- Pieces holding the codes, and covering the slab's first chunks. -/
def Good (L : List (View.Piece (Elt Ideal) S512x8192 .fp8e4m3)) (n : ℕ) : Prop :=
  (∀ p ∈ L, ∀ x, (p.2 x : EReal) = cd arg7 arg8 X7 X8 (p.1.emb x 0).val (p.1.emb x 1).val)
    ∧ ∀ y : S512x8192.Idx, 32 * k.val ≤ (y 0).val → (y 0).val < 32 * k.val + 32 → (y 1).val < 128 * n → ∃ p ∈ L, y ∈ p.1.set

theorem good_nil : Good arg7 arg8 X7 X8 k [] 0 := ⟨fun _ h => absurd h List.not_mem_nil, fun y _ _ h => absurd h (by omega)⟩

theorem good_cons (c : ℕ) {L : List (View.Piece (Elt Ideal) S512x8192 .fp8e4m3)} {off : Fin 2 → ℕ} {inb : ∀ a, off a + S32x128.size a ≤ S512x8192.size a}
    (v : S32x128.Idx → EReal) (ho : off = ![32 * k.val, 128 * c])
    (hv : ∀ x : S32x128.Idx, v x = cd arg7 arg8 X7 X8 (32 * k.val + (x 0).val) (128 * c + (x 1).val)) (h : Good arg7 arg8 X7 X8 k L c) :
    Good arg7 arg8 X7 X8 k (⟨Rect.unit (s := S512x8192) off S32x128.size inb, v⟩ :: L) (c + 1) := by
  subst ho
  refine ⟨fun p hp => ?_, fun y h1 h2 h3 => ?_⟩
  · rcases List.mem_cons.mp hp with rfl | hp
    · intro x
      refine (hv x).trans ?_
      have e0 : ((Rect.unit (s := S512x8192) ![32 * k.val, 128 * c] S32x128.size inb).emb x 0).val = 32 * k.val + (x 0).val := by
        show 32 * k.val + 1 * (x 0).val = _; omega
      have e1 : ((Rect.unit (s := S512x8192) ![32 * k.val, 128 * c] S32x128.size inb).emb x 1).val = 128 * c + (x 1).val := by
        show 128 * c + 1 * (x 1).val = _; omega
      show _ = cd arg7 arg8 X7 X8 ((Rect.unit (s := S512x8192) ![32 * k.val, 128 * c] S32x128.size inb).emb x 0).val ((Rect.unit (s := S512x8192) ![32 * k.val, 128 * c] S32x128.size inb).emb x 1).val
      rw [e0, e1]
    · exact h.1 p hp
  · by_cases hc : (y 1).val < 128 * c
    · obtain ⟨p, hp, hy⟩ := h.2 y h1 h2 hc
      exact ⟨p, List.mem_cons_of_mem _ hp, hy⟩
    · refine ⟨_, List.mem_cons_self, ?_⟩
      show y ∈ (Rect.unit (s := S512x8192) ![32 * k.val, 128 * c] S32x128.size inb).set
      rw [Rect.mem_set_unit]
      intro a
      match a with
      | ⟨0, _⟩ => exact ⟨h1, h2⟩
      | ⟨1, _⟩ => exact ⟨by show 128 * c ≤ (y 1).val; omega, by show (y 1).val < 128 * c + 128; omega⟩

end

end Cert.KernelIdeal.Run

end
-- ==== Proof.KI.Pieces.lean ====
/- The codes a trip stores. -/
module

public import proofs.«01_k».proof.Proof.KI.Scale

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Spec

theorem pay120_apply (A : FVec Ideal S32x1 .f32) (j : S32x1.Idx) : k0_pay120 (F := Ideal) A k0_pay117 j = kinv (A j) := by
  unfold kinv
  rw [← pay118_apply]
  rfl
theorem pay119_apply (A : FVec Ideal S32x1 .f32) (j : S32x1.Idx) : k0_pay119 (F := Ideal) A k0_pay117 j = kscale (A j) := by
  unfold kscale
  rw [← pay118_apply]
  rfl
theorem pay120_c (f : ℕ → EReal) : k0_pay120 (F := Ideal) (fun j => f (j 0).val) k0_pay117 = fun j => kinv (f (j 0).val) := pay120_eq f

set_option maxHeartbeats 8000000 in
/-- A trip's code pieces. -/
theorem trip9 (𝒱 : Variants) (c : Dev nD) (bd : Option 𝒱.V) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (k0_h2 : k0_cond2 i = 1#1) (X7 : BufTy.Contents (Elt Ideal) arg7.view.ty) (X8 : BufTy.Contents (Elt Ideal) arg8.view.ty) (k : Fin k0_t1_loop.trips) : Good arg7 arg8 X7 X8 k (trip_k0_t1 (F := Ideal) 𝒱 c bd i arg2 harg2 arg3 harg3 arg4 harg4 arg5 harg5 arg6 harg6 arg7 harg7 arg8 harg8 arg9 harg9 arg10 harg10 arg11 harg11 k0_h2 X7 X8 k).1 64 := by
  unfold trip_k0_t1
  dsimp only
  refine good_cons arg7 arg8 X7 X8 k 63 _ (off65_eq k) (fun x => ?_) ?_
  swap
  refine good_cons arg7 arg8 X7 X8 k 62 _ (off64_eq k) (fun x => ?_) ?_
  swap
  refine good_cons arg7 arg8 X7 X8 k 61 _ (off63_eq k) (fun x => ?_) ?_
  swap
  refine good_cons arg7 arg8 X7 X8 k 60 _ (off62_eq k) (fun x => ?_) ?_
  swap
  refine good_cons arg7 arg8 X7 X8 k 59 _ (off61_eq k) (fun x => ?_) ?_
  swap
  refine good_cons arg7 arg8 X7 X8 k 58 _ (off60_eq k) (fun x => ?_) ?_
  swap
  refine good_cons arg7 arg8 X7 X8 k 57 _ (off59_eq k) (fun x => ?_) ?_
  swap
  refine good_cons arg7 arg8 X7 X8 k 56 _ (off58_eq k) (fun x => ?_) ?_
  swap
  refine good_cons arg7 arg8 X7 X8 k 55 _ (off57_eq k) (fun x => ?_) ?_
  swap
  refine good_cons arg7 arg8 X7 X8 k 54 _ (off56_eq k) (fun x => ?_) ?_
  swap
  refine good_cons arg7 arg8 X7 X8 k 53 _ (off55_eq k) (fun x => ?_) ?_
  swap
  refine good_cons arg7 arg8 X7 X8 k 52 _ (off54_eq k) (fun x => ?_) ?_
  swap
  refine good_cons arg7 arg8 X7 X8 k 51 _ (off53_eq k) (fun x => ?_) ?_
  swap
  refine good_cons arg7 arg8 X7 X8 k 50 _ (off52_eq k) (fun x => ?_) ?_
  swap
  refine good_cons arg7 arg8 X7 X8 k 49 _ (off51_eq k) (fun x => ?_) ?_
  swap
  refine good_cons arg7 arg8 X7 X8 k 48 _ (off50_eq k) (fun x => ?_) ?_
  swap
  refine good_cons arg7 arg8 X7 X8 k 47 _ (off49_eq k) (fun x => ?_) ?_
  swap
  refine good_cons arg7 arg8 X7 X8 k 46 _ (off48_eq k) (fun x => ?_) ?_
  swap
  refine good_cons arg7 arg8 X7 X8 k 45 _ (off47_eq k) (fun x => ?_) ?_
  swap
  refine good_cons arg7 arg8 X7 X8 k 44 _ (off46_eq k) (fun x => ?_) ?_
  swap
  refine good_cons arg7 arg8 X7 X8 k 43 _ (off45_eq k) (fun x => ?_) ?_
  swap
  refine good_cons arg7 arg8 X7 X8 k 42 _ (off44_eq k) (fun x => ?_) ?_
  swap
  refine good_cons arg7 arg8 X7 X8 k 41 _ (off43_eq k) (fun x => ?_) ?_
  swap
  refine good_cons arg7 arg8 X7 X8 k 40 _ (off42_eq k) (fun x => ?_) ?_
  swap
  refine good_cons arg7 arg8 X7 X8 k 39 _ (off41_eq k) (fun x => ?_) ?_
  swap
  refine good_cons arg7 arg8 X7 X8 k 38 _ (off40_eq k) (fun x => ?_) ?_
  swap
  refine good_cons arg7 arg8 X7 X8 k 37 _ (off39_eq k) (fun x => ?_) ?_
  swap
  refine good_cons arg7 arg8 X7 X8 k 36 _ (off38_eq k) (fun x => ?_) ?_
  swap
  refine good_cons arg7 arg8 X7 X8 k 35 _ (off37_eq k) (fun x => ?_) ?_
  swap
  refine good_cons arg7 arg8 X7 X8 k 34 _ (off36_eq k) (fun x => ?_) ?_
  swap
  refine good_cons arg7 arg8 X7 X8 k 33 _ (off35_eq k) (fun x => ?_) ?_
  swap
  refine good_cons arg7 arg8 X7 X8 k 32 _ (off34_eq k) (fun x => ?_) ?_
  swap
  refine good_cons arg7 arg8 X7 X8 k 31 _ (off33_eq k) (fun x => ?_) ?_
  swap
  refine good_cons arg7 arg8 X7 X8 k 30 _ (off32_eq k) (fun x => ?_) ?_
  swap
  refine good_cons arg7 arg8 X7 X8 k 29 _ (off31_eq k) (fun x => ?_) ?_
  swap
  refine good_cons arg7 arg8 X7 X8 k 28 _ (off30_eq k) (fun x => ?_) ?_
  swap
  refine good_cons arg7 arg8 X7 X8 k 27 _ (off29_eq k) (fun x => ?_) ?_
  swap
  refine good_cons arg7 arg8 X7 X8 k 26 _ (off28_eq k) (fun x => ?_) ?_
  swap
  refine good_cons arg7 arg8 X7 X8 k 25 _ (off27_eq k) (fun x => ?_) ?_
  swap
  refine good_cons arg7 arg8 X7 X8 k 24 _ (off26_eq k) (fun x => ?_) ?_
  swap
  refine good_cons arg7 arg8 X7 X8 k 23 _ (off25_eq k) (fun x => ?_) ?_
  swap
  refine good_cons arg7 arg8 X7 X8 k 22 _ (off24_eq k) (fun x => ?_) ?_
  swap
  refine good_cons arg7 arg8 X7 X8 k 21 _ (off23_eq k) (fun x => ?_) ?_
  swap
  refine good_cons arg7 arg8 X7 X8 k 20 _ (off22_eq k) (fun x => ?_) ?_
  swap
  refine good_cons arg7 arg8 X7 X8 k 19 _ (off21_eq k) (fun x => ?_) ?_
  swap
  refine good_cons arg7 arg8 X7 X8 k 18 _ (off20_eq k) (fun x => ?_) ?_
  swap
  refine good_cons arg7 arg8 X7 X8 k 17 _ (off19_eq k) (fun x => ?_) ?_
  swap
  refine good_cons arg7 arg8 X7 X8 k 16 _ (off18_eq k) (fun x => ?_) ?_
  swap
  refine good_cons arg7 arg8 X7 X8 k 15 _ (off17_eq k) (fun x => ?_) ?_
  swap
  refine good_cons arg7 arg8 X7 X8 k 14 _ (off16_eq k) (fun x => ?_) ?_
  swap
  refine good_cons arg7 arg8 X7 X8 k 13 _ (off15_eq k) (fun x => ?_) ?_
  swap
  refine good_cons arg7 arg8 X7 X8 k 12 _ (off14_eq k) (fun x => ?_) ?_
  swap
  refine good_cons arg7 arg8 X7 X8 k 11 _ (off13_eq k) (fun x => ?_) ?_
  swap
  refine good_cons arg7 arg8 X7 X8 k 10 _ (off12_eq k) (fun x => ?_) ?_
  swap
  refine good_cons arg7 arg8 X7 X8 k 9 _ (off11_eq k) (fun x => ?_) ?_
  swap
  refine good_cons arg7 arg8 X7 X8 k 8 _ (off10_eq k) (fun x => ?_) ?_
  swap
  refine good_cons arg7 arg8 X7 X8 k 7 _ (off9_eq k) (fun x => ?_) ?_
  swap
  refine good_cons arg7 arg8 X7 X8 k 6 _ (off8_eq k) (fun x => ?_) ?_
  swap
  refine good_cons arg7 arg8 X7 X8 k 5 _ (off7_eq k) (fun x => ?_) ?_
  swap
  refine good_cons arg7 arg8 X7 X8 k 4 _ (off6_eq k) (fun x => ?_) ?_
  swap
  refine good_cons arg7 arg8 X7 X8 k 3 _ (off5_eq k) (fun x => ?_) ?_
  swap
  refine good_cons arg7 arg8 X7 X8 k 2 _ (off4_eq k) (fun x => ?_) ?_
  swap
  refine good_cons arg7 arg8 X7 X8 k 1 _ (off3_eq k) (fun x => ?_) ?_
  swap
  refine good_cons arg7 arg8 X7 X8 k 0 _ (off2_eq k) (fun x => ?_) ?_
  swap
  · exact good_nil arg7 arg8 X7 X8 k
  all_goals
    simp only [trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_80, trip_k0_t1.sl.r_81, trip_k0_t1.sl.r_82, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay3, r11_eq, r50_eq, r49_eq, pay120_c, pay120_apply, addI, mulI, maxI, minI, absI, rsqrtI, extI, truncI, bcI, colS, rowS, unitColI, shapeCast_self, ld7, subI, ld8_2, ld8_3, ld8_4, ld8_5, ld8_6, ld8_7, ld8_8, ld8_9, ld8_10, ld8_11, ld8_12, ld8_13, ld8_14, ld8_15, ld8_16, ld8_17, ld8_18, ld8_19, ld8_20, ld8_21, ld8_22, ld8_23, ld8_24, ld8_25, ld8_26, ld8_27, ld8_28, ld8_29, ld8_30, ld8_31, ld8_32, ld8_33, ld8_34, ld8_35, ld8_36, ld8_37, ld8_38, ld8_39, ld8_40, ld8_41, ld8_42, ld8_43, ld8_44, ld8_45, ld8_46, ld8_47, ld8_48, ld8_49, ld8_50, ld8_51, ld8_52, ld8_53, ld8_54, ld8_55, ld8_56, ld8_57, ld8_58, ld8_59, ld8_60, ld8_61, ld8_62, ld8_63, ld8_64, ld8_65, cd, nrm, clip, Nat.reduceMul]
    try rfl

theorem good10 (i : grid0.Coords) (arg7 : Memref sig .tc .vmem S1x8192 .bf16) (arg8 : Memref sig .tc .vmem S512x8192 .bf16)
    (X7 : BufTy.Contents (Elt Ideal) arg7.view.ty) (X8 : BufTy.Contents (Elt Ideal) arg8.view.ty) (k : Fin k0_t1_loop.trips) {off : Fin 2 → ℕ} {inb : ∀ a, off a + S32x1.size a ≤ S512x1.size a}
    (v : S32x1.Idx → EReal) (ho : off = ![32 * k.val, 0]) (hv : ∀ x : S32x1.Idx, v x = sc arg7 arg8 X7 X8 (32 * k.val + (x 0).val))
    (L : List (View.Piece (Elt Ideal) S512x1 .f32)) (hL : L = [⟨Rect.unit (s := S512x1) off S32x1.size inb, v⟩]) :
    (∀ p ∈ L, ∀ x, (p.2 x : EReal) = sc arg7 arg8 X7 X8 (p.1.emb x 0).val)
      ∧ ∀ y : S512x1.Idx, 32 * k.val ≤ (y 0).val → (y 0).val < 32 * k.val + 32 → ∃ p ∈ L, y ∈ p.1.set := by
  subst ho hL
  refine ⟨fun p hp => ?_, fun y h1 h2 => ⟨_, List.mem_cons_self, ?_⟩⟩
  · obtain rfl := List.mem_singleton.mp hp
    intro x
    refine (hv x).trans ?_
    have e0 : ((Rect.unit (s := S512x1) ![32 * k.val, 0] S32x1.size inb).emb x 0).val = 32 * k.val + (x 0).val := by
      show 32 * k.val + 1 * (x 0).val = _
      omega
    exact congrArg (sc arg7 arg8 X7 X8) e0.symm
  · show y ∈ (Rect.unit (s := S512x1) ![32 * k.val, 0] S32x1.size inb).set
    rw [Rect.mem_set_unit]
    intro a
    match a with
    | ⟨0, _⟩ => exact ⟨h1, h2⟩
    | ⟨1, _⟩ =>
      have := idx2_lt1 y
      exact ⟨Nat.zero_le _, by show (y 1).val < 0 + 1; omega⟩

/-- A trip's scale pieces. -/
theorem trip10 (𝒱 : Variants) (c : Dev nD) (bd : Option 𝒱.V) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (k0_h2 : k0_cond2 i = 1#1) (X7 : BufTy.Contents (Elt Ideal) arg7.view.ty) (X8 : BufTy.Contents (Elt Ideal) arg8.view.ty) (k : Fin k0_t1_loop.trips) :
    (∀ p ∈ (trip_k0_t1 (F := Ideal) 𝒱 c bd i arg2 harg2 arg3 harg3 arg4 harg4 arg5 harg5 arg6 harg6 arg7 harg7 arg8 harg8 arg9 harg9 arg10 harg10 arg11 harg11 k0_h2 X7 X8 k).2.1, ∀ x, (p.2 x : EReal) = sc arg7 arg8 X7 X8 (p.1.emb x 0).val)
      ∧ ∀ y : S512x1.Idx, 32 * k.val ≤ (y 0).val → (y 0).val < 32 * k.val + 32 → ∃ p ∈ (trip_k0_t1 (F := Ideal) 𝒱 c bd i arg2 harg2 arg3 harg3 arg4 harg4 arg5 harg5 arg6 harg6 arg7 harg7 arg8 harg8 arg9 harg9 arg10 harg10 arg11 harg11 k0_h2 X7 X8 k).2.1, y ∈ p.1.set := by
  unfold trip_k0_t1
  dsimp only
  refine good10 i arg7 arg8 X7 X8 k _ (off66_eq k) (fun x => ?_) _ rfl
  refine (pay119_apply _ x).trans ?_
  rw [r49_eq]
  rfl

/-- Pieces of the slabs before `n`, followed by those of slab `n`. -/
theorem join {s : Shape} {φ : EltTy} {L A B : List (View.Piece (Elt Ideal) s φ)} {n : ℕ} (e : L = A ++ B) (P : View.Piece (Elt Ideal) s φ → Prop) (row : s.Idx → ℕ)
    (hA : ∀ p ∈ A, P p) (cA : ∀ y : s.Idx, 32 * n ≤ row y → row y < 32 * n + 32 → ∃ p ∈ A, y ∈ p.1.set)
    (hB : ∀ p ∈ B, P p) (cB : ∀ y : s.Idx, row y < 32 * n → ∃ p ∈ B, y ∈ p.1.set) :
    (∀ p ∈ L, P p) ∧ ∀ y : s.Idx, row y < 32 * (n + 1) → ∃ p ∈ L, y ∈ p.1.set := by
  subst e
  refine ⟨fun p hp => ?_, fun y h => ?_⟩
  · rcases List.mem_append.mp hp with hp | hp
    · exact hA p hp
    · exact hB p hp
  · by_cases hy : row y < 32 * n
    · obtain ⟨p, hp, hy⟩ := cB y hy
      exact ⟨p, List.mem_append_right _ hp, hy⟩
    · obtain ⟨p, hp, hy⟩ := cA y (by omega) (by omega)
      exact ⟨p, List.mem_append_left _ hp, hy⟩

/-- The codes and the scales of the slabs before `n`. -/
theorem loop_pieces (𝒱 : Variants) (c : Dev nD) (bd : Option 𝒱.V) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (k0_h2 : k0_cond2 i = 1#1) (X7 : BufTy.Contents (Elt Ideal) arg7.view.ty) (X8 : BufTy.Contents (Elt Ideal) arg8.view.ty) (n : ℕ) (hn : n ≤ k0_t1_loop.trips) :
    ((∀ p ∈ (pb_k0_t1 (F := Ideal) 𝒱 c bd i arg2 harg2 arg3 harg3 arg4 harg4 arg5 harg5 arg6 harg6 arg7 harg7 arg8 harg8 arg9 harg9 arg10 harg10 arg11 harg11 k0_h2 X7 X8 n).1, ∀ x, (p.2 x : EReal) = cd arg7 arg8 X7 X8 (p.1.emb x 0).val (p.1.emb x 1).val)
      ∧ ∀ y : S512x8192.Idx, (y 0).val < 32 * n → ∃ p ∈ (pb_k0_t1 (F := Ideal) 𝒱 c bd i arg2 harg2 arg3 harg3 arg4 harg4 arg5 harg5 arg6 harg6 arg7 harg7 arg8 harg8 arg9 harg9 arg10 harg10 arg11 harg11 k0_h2 X7 X8 n).1, y ∈ p.1.set)
    ∧ ((∀ p ∈ (pb_k0_t1 (F := Ideal) 𝒱 c bd i arg2 harg2 arg3 harg3 arg4 harg4 arg5 harg5 arg6 harg6 arg7 harg7 arg8 harg8 arg9 harg9 arg10 harg10 arg11 harg11 k0_h2 X7 X8 n).2, ∀ x, (p.2 x : EReal) = sc arg7 arg8 X7 X8 (p.1.emb x 0).val)
      ∧ ∀ y : S512x1.Idx, (y 0).val < 32 * n → ∃ p ∈ (pb_k0_t1 (F := Ideal) 𝒱 c bd i arg2 harg2 arg3 harg3 arg4 harg4 arg5 harg5 arg6 harg6 arg7 harg7 arg8 harg8 arg9 harg9 arg10 harg10 arg11 harg11 k0_h2 X7 X8 n).2, y ∈ p.1.set) := by
  induction n with
  | zero => exact ⟨⟨fun p hp => absurd hp List.not_mem_nil, fun y h => absurd h (by omega)⟩, ⟨fun p hp => absurd hp List.not_mem_nil, fun y h => absurd h (by omega)⟩⟩
  | succ n ih =>
    obtain ⟨⟨a1, a2⟩, b1, b2⟩ := ih (by omega)
    have e := pb_k0_t1_succ (F := Ideal) 𝒱 c bd i arg2 harg2 arg3 harg3 arg4 harg4 arg5 harg5 arg6 harg6 arg7 harg7 arg8 harg8 arg9 harg9 arg10 harg10 arg11 harg11 k0_h2 X7 X8 ⟨n, hn⟩
    have g := trip9 𝒱 c bd i arg2 harg2 arg3 harg3 arg4 harg4 arg5 harg5 arg6 harg6 arg7 harg7 arg8 harg8 arg9 harg9 arg10 harg10 arg11 harg11 k0_h2 X7 X8 ⟨n, hn⟩
    have h10 := trip10 𝒱 c bd i arg2 harg2 arg3 harg3 arg4 harg4 arg5 harg5 arg6 harg6 arg7 harg7 arg8 harg8 arg9 harg9 arg10 harg10 arg11 harg11 k0_h2 X7 X8 ⟨n, hn⟩
    have e1 := congrArg Prod.fst e
    have e2 := congrArg Prod.snd e
    exact ⟨join e1 (fun p => ∀ x, (p.2 x : EReal) = cd arg7 arg8 X7 X8 (p.1.emb x 0).val (p.1.emb x 1).val) (fun y => (y 0).val) g.1 (fun y h h' => g.2 y h h' (idx2_lt1 y)) a1 a2,
      join e2 (fun p => ∀ x, (p.2 x : EReal) = sc arg7 arg8 X7 X8 (p.1.emb x 0).val) (fun y => (y 0).val) h10.1 h10.2 b1 b2⟩

end Cert.KernelIdeal.Run

end
-- ==== Proof.KI.ValC.lean ====
/- The body run in case C, its outputs at some contents. -/
module

public import proofs.«01_k».proof.Proof.KI.Tile
public import proofs.«01_k».proof.Proof.KI.Pieces

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.Spec

theorem trips_eq : k0_t1_loop.trips = 16 := by rfl

/-- What the slabs' pieces leave in the buffer of the codes. -/
theorem codes_of (𝒱 : Variants) (c : Dev nD) (bd : Option 𝒱.V) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (k0_h2 : k0_cond2 i = 1#1) (X7 : BufTy.Contents (Elt Ideal) arg7.view.ty) (X8 : BufTy.Contents (Elt Ideal) arg8.view.ty) (f : arg9.view.ty.Contents (Elt Ideal)) {H : Vec Ideal S512x8192 .bf16} {x5 : Vec Ideal S1x8192 .bf16}
    (e7 : View.read (Elt Ideal) arg7.view X7 = x5) (e8 : View.read (Elt Ideal) arg8.view X8 = H) :
    View.read (Elt Ideal) arg9.view (arg9.view.writes (Elt Ideal) f (pb_k0_t1 (F := Ideal) 𝒱 c bd i arg2 harg2 arg3 harg3 arg4 harg4 arg5 harg5 arg6 harg6 arg7 harg7 arg8 harg8 arg9 harg9 arg10 harg10 arg11 harg11 k0_h2 X7 X8 k0_t1_loop.trips).1) = codesV H x5 := by
  subst e7 e8
  funext y
  have h := loop_pieces 𝒱 c bd i arg2 harg2 arg3 harg3 arg4 harg4 arg5 harg5 arg6 harg6 arg7 harg7 arg8 harg8 arg9 harg9 arg10 harg10 arg11 harg11 k0_h2 X7 X8 k0_t1_loop.trips le_rfl
  have hy : (y 0).val < 32 * k0_t1_loop.trips := by
    have := idx2_lt0 y
    rw [trips_eq]; omega
  exact View.read_writes_apply_of_pieces (v := arg9.view) f (codesV (View.read (Elt Ideal) arg8.view X8) (View.read (Elt Ideal) arg7.view X7)) _ h.1.1 y (h.1.2 y hy)

/-- What the slabs' pieces leave in the buffer of the scales. -/
theorem scales_of (𝒱 : Variants) (c : Dev nD) (bd : Option 𝒱.V) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (k0_h2 : k0_cond2 i = 1#1) (X7 : BufTy.Contents (Elt Ideal) arg7.view.ty) (X8 : BufTy.Contents (Elt Ideal) arg8.view.ty) (f : arg10.view.ty.Contents (Elt Ideal)) {H : Vec Ideal S512x8192 .bf16} {x5 : Vec Ideal S1x8192 .bf16}
    (e7 : View.read (Elt Ideal) arg7.view X7 = x5) (e8 : View.read (Elt Ideal) arg8.view X8 = H) :
    View.read (Elt Ideal) arg10.view (arg10.view.writes (Elt Ideal) f (pb_k0_t1 (F := Ideal) 𝒱 c bd i arg2 harg2 arg3 harg3 arg4 harg4 arg5 harg5 arg6 harg6 arg7 harg7 arg8 harg8 arg9 harg9 arg10 harg10 arg11 harg11 k0_h2 X7 X8 k0_t1_loop.trips).2) = scalesV H x5 := by
  subst e7 e8
  funext y
  have h := loop_pieces 𝒱 c bd i arg2 harg2 arg3 harg3 arg4 harg4 arg5 harg5 arg6 harg6 arg7 harg7 arg8 harg8 arg9 harg9 arg10 harg10 arg11 harg11 k0_h2 X7 X8 k0_t1_loop.trips le_rfl
  have hy : (y 0).val < 32 * k0_t1_loop.trips := by
    have := idx2_lt0 y
    rw [trips_eq]; omega
  exact View.read_writes_apply_of_pieces (v := arg10.view) f (scalesV (View.read (Elt Ideal) arg8.view X8) (View.read (Elt Ideal) arg7.view X7)) _ h.2.1 y (h.2.2 y hy)

-- (the run's proof term is large: checking it walks past the default budget)
set_option maxHeartbeats 1000000 in
/-- The body in case C, its outputs at what it stores. -/
theorem run_C (c : Dev nD) (i : grid0.Coords) (arg2 : Memref sig .tc .vmem S512x7168 .fp8e4m3) (harg2 : arg2.IsWhole) (arg3 : Memref sig .tc .vmem S512x56 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x8192 .bf16) (harg7 : arg7.IsWhole) (arg8 : Memref sig .tc .vmem S512x8192 .bf16) (harg8 : arg8.IsWhole) (arg9 : Memref sig .tc .vmem S512x8192 .fp8e4m3) (harg9 : arg9.IsWhole) (arg10 : Memref sig .tc .vmem S512x1 .f32) (harg10 : arg10.IsWhole) (arg11 : Memref sig .tc .vmem S512x7168 .bf16) (harg11 : arg11.IsWhole) (hc0 : ¬cond0_0 i) (hc1 : cond0_1 i)
    (x0 : Vec Ideal S512x7168 .fp8e4m3) (x1 : Vec Ideal S512x56 .f32) (x2 : Vec Ideal S7168x512 .fp8e4m3) (x3 : Vec Ideal S1x512 .f32) (x4 : Vec Ideal S512x512 .bf16) (x5 : Vec Ideal S1x8192 .bf16) (d6 : Vec Ideal S512x8192 .bf16) (xs : Vec Ideal S512x7168 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (upd (i 1).val (k0_pay2 xs x2 x4 x3) d6) ∗ owns (c : Thread nD τ) arg9 fullShare (codesV (upd (i 1).val (k0_pay2 xs x2 x4 x3) d6) x5) ∗ owns (c : Thread nD τ) arg10 fullShare (scalesV (upd (i 1).val (k0_pay2 xs x2 x4 x3) d6) x5) ∗ owns (c : Thread nD τ) arg11 fullShare xs) -∗ K ⟨⟩))
          ⊢ wp frame (wpE (defs₀ (F := Ideal)) Variants.none c none) E (cc0_proj_norm_quant i arg2 harg2 arg3 harg3 arg4 harg4 arg5 harg5 arg6 harg6 arg7 harg7 arg8 harg8 arg9 harg9 arg10 harg10 arg11 harg11) K := by
    intro E K
    simp only [cc0_proj_norm_quant_eq_skeleton]; unfold cc0_proj_norm_quant_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; subst hf6; obtain rfl := harg11.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_upd arg8.view f6 i _ _).trans (congrArg (fun T => upd (i 1).val T _) ?_)
      exact pay2_congr ((ld_full _ _ _).trans (harg11.read_unread _)) ((ld_full _ _ _).trans (harg4.read_unread _)) ((ld_full _ _ _).trans (harg6.read_unread _)) ((ld_full _ _ _).trans (harg5.read_unread _))
    have e7 : View.read (Elt Ideal) arg7.view (harg7.unread x5) = x5 := harg7.read_unread x5
    have e8 := (read_upd arg8.view f6 i (k0_off1_inb i) _).trans (congrArg (fun T => upd (i 1).val T (View.read (Elt Ideal) arg8.view f6)) (pay2_congr ((ld_full arg11.view (harg11.unread xs) inb_S512x7168_S512x7168_0_0).trans (harg11.read_unread _)) ((ld_full arg4.view (harg4.unread x2) inb_S7168x512_S7168x512_0_0).trans (harg4.read_unread _)) ((ld_full arg6.view (harg6.unread x4) inb_S512x512_S512x512_0_0).trans (harg6.read_unread _)) ((ld_full arg5.view (harg5.unread x3) inb_S1x512_S1x512_0_0).trans (harg5.read_unread _))))
    isplitl [H7]
    · iexists _; isplitr; swap; · iexact H7
      ipureintro
      exact codes_of _ _ _ _ _ _ _ _ _ _ _ _ _ _ _ _ _ _ _ _ _ _ _ _ _ _ _ _ e7 e8
    isplitl [H8]
    · iexists _; isplitr; swap; · iexact H8
      ipureintro
      exact scales_of _ _ _ _ _ _ _ _ _ _ _ _ _ _ _ _ _ _ _ _ _ _ _ _ _ _ _ _ e7 e8
    iexists _; isplitr; · ipureintro; exact harg11.read_unread _
    iexact HS0

end Cert.KernelIdeal.Run

end
-- ==== Proof.KI.Blocks.lean ====
/- The arrays the pipeline reads, at natural-number coordinates, and the blocks it cuts from them. -/
module

public import proofs.«01_k».proof.Proof.KI.Tile
public import Idealize.ShloMosaic.Lib.Pipeline.ValueKit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx Cert.Spec

local notation "𝕄" => MT nD τ sig Unit (Elt Ideal) ℕ (UR sig nD τ) ℕ

variable (m : (ℓ : Loc nD τ sig) → Buf (Elt Ideal) ℓ) (ρ : Dev nD → PrngReg)

theorem crd0 (t : Fin cfg0.N) : (grid0.coords t 0).val = t.val / 16 := by
  have hN : t.val < 768 := lt_of_lt_of_eq t.isLt (show cfg0.N = 768 from N_0)
  have h2 : (grid0.coords t 0).val = t.val / 16 % 48 := Pipeline.Grid.coords_val t 0 (by decide) rfl
  omega
theorem crd1 (t : Fin cfg0.N) : (grid0.coords t 1).val = t.val % 16 := by
  have h2 : (grid0.coords t 1).val = t.val / 1 % 16 := Pipeline.Grid.coords_val t 1 (by decide) rfl
  omega
theorem wordNat (n : ℕ) (h : n < 768) : (BitVec.ofNat 32 n).toNat = n := by
  rw [BitVec.toNat_ofNat]; omega

theorem index0 (t : Fin cfg0.N) : win0_0.index t = ![t.val / 16, 0] := by
  have hN : t.val < 768 := lt_of_lt_of_eq t.isLt (show cfg0.N = 768 from N_0)
  show cc0_transform_0 (grid0.coords t) = _
  unfold cc0_transform_0
  dsimp only
  have h0 := wordNat (t.val / 16) (by omega)
  have h1 := wordNat (t.val % 16) (by omega)
  try simp only [crd0, crd1, h0, h1]
  try rfl
theorem index1 (t : Fin cfg0.N) : win0_1.index t = ![t.val / 16, 0] := by
  have hN : t.val < 768 := lt_of_lt_of_eq t.isLt (show cfg0.N = 768 from N_0)
  show cc0_transform_1 (grid0.coords t) = _
  unfold cc0_transform_1
  dsimp only
  have h0 := wordNat (t.val / 16) (by omega)
  have h1 := wordNat (t.val % 16) (by omega)
  try simp only [crd0, crd1, h0, h1]
  try rfl
theorem index2 (t : Fin cfg0.N) : win0_2.index t = ![0, t.val % 16] := by
  have hN : t.val < 768 := lt_of_lt_of_eq t.isLt (show cfg0.N = 768 from N_0)
  show cc0_transform_2 (grid0.coords t) = _
  unfold cc0_transform_2
  dsimp only
  have h0 := wordNat (t.val / 16) (by omega)
  have h1 := wordNat (t.val % 16) (by omega)
  try simp only [crd0, crd1, h0, h1]
  try rfl
theorem index3 (t : Fin cfg0.N) : win0_3.index t = ![0, t.val % 16] := by
  have hN : t.val < 768 := lt_of_lt_of_eq t.isLt (show cfg0.N = 768 from N_0)
  show cc0_transform_3 (grid0.coords t) = _
  unfold cc0_transform_3
  dsimp only
  have h0 := wordNat (t.val / 16) (by omega)
  have h1 := wordNat (t.val % 16) (by omega)
  try simp only [crd0, crd1, h0, h1]
  try rfl
theorem index4 (t : Fin cfg0.N) : win0_4.index t = ![t.val / 16, t.val % 16] := by
  have hN : t.val < 768 := lt_of_lt_of_eq t.isLt (show cfg0.N = 768 from N_0)
  show cc0_transform_4 (grid0.coords t) = _
  unfold cc0_transform_4
  dsimp only
  have h0 := wordNat (t.val / 16) (by omega)
  have h1 := wordNat (t.val % 16) (by omega)
  try simp only [crd0, crd1, h0, h1]
  try rfl
theorem index5 (t : Fin cfg0.N) : win0_5.index t = ![0, 0] := by
  have hN : t.val < 768 := lt_of_lt_of_eq t.isLt (show cfg0.N = 768 from N_0)
  show cc0_transform_5 (grid0.coords t) = _
  unfold cc0_transform_5
  dsimp only
  have h0 := wordNat (t.val / 16) (by omega)
  have h1 := wordNat (t.val % 16) (by omega)
  try simp only [crd0, crd1, h0, h1]
  try rfl
theorem index6 (t : Fin cfg0.N) : win0_6.index t = ![t.val / 16, 0] := by
  have hN : t.val < 768 := lt_of_lt_of_eq t.isLt (show cfg0.N = 768 from N_0)
  show cc0_transform_6 (grid0.coords t) = _
  unfold cc0_transform_6
  dsimp only
  have h0 := wordNat (t.val / 16) (by omega)
  have h1 := wordNat (t.val % 16) (by omega)
  try simp only [crd0, crd1, h0, h1]
  try rfl
theorem index7 (t : Fin cfg0.N) : win0_7.index t = ![t.val / 16, 0] := by
  have hN : t.val < 768 := lt_of_lt_of_eq t.isLt (show cfg0.N = 768 from N_0)
  show cc0_transform_7 (grid0.coords t) = _
  unfold cc0_transform_7
  dsimp only
  have h0 := wordNat (t.val / 16) (by omega)
  have h1 := wordNat (t.val % 16) (by omega)
  try simp only [crd0, crd1, h0, h1]
  try rfl
theorem index8 (t : Fin cfg0.N) : win0_8.index t = ![t.val / 16, 0] := by
  have hN : t.val < 768 := lt_of_lt_of_eq t.isLt (show cfg0.N = 768 from N_0)
  show cc0_transform_8 (grid0.coords t) = _
  unfold cc0_transform_8
  dsimp only
  have h0 := wordNat (t.val / 16) (by omega)
  have h1 := wordNat (t.val % 16) (by omega)
  try simp only [crd0, crd1, h0, h1]
  try rfl

/-- Operand 0, as the launch finds it. -/
def arr0 (c : Dev nD) : Vec Ideal S24576x7168 .fp8e4m3 := V m c (Pipeline.arrRef spec0 0)
theorem iblk0_at (c : Dev nD) (t : Fin cfg0.N) (y : S512x7168.Idx) :
    (iblk m c 0 t : Vec Ideal S512x7168 .fp8e4m3) y = at2 (a := 24576) (b := 7168) (arr0 m c) (512 * (t.val / 16) + (y 0).val) ((y 1).val) := by
  refine (at2_of (a := 24576) (b := 7168) (arr0 m c) (((cfg0.win 0).blk t).view.emb y) ?_ ?_).symm
  · blk_simp [index0 t]; omega
  · blk_simp [index0 t]

/-- Operand 1, as the launch finds it. -/
def arr1 (c : Dev nD) : Vec Ideal S24576x56 .f32 := V m c (Pipeline.arrRef spec0 1)
theorem iblk1_at (c : Dev nD) (t : Fin cfg0.N) (y : S512x56.Idx) :
    (iblk m c 1 t : Vec Ideal S512x56 .f32) y = at2 (a := 24576) (b := 56) (arr1 m c) (512 * (t.val / 16) + (y 0).val) ((y 1).val) := by
  refine (at2_of (a := 24576) (b := 56) (arr1 m c) (((cfg0.win 1).blk t).view.emb y) ?_ ?_).symm
  · blk_simp [index1 t]; omega
  · blk_simp [index1 t]

/-- Operand 2, as the launch finds it. -/
def arr2 (c : Dev nD) : Vec Ideal S7168x8192 .fp8e4m3 := V m c (Pipeline.arrRef spec0 2)
theorem iblk2_at (c : Dev nD) (t : Fin cfg0.N) (y : S7168x512.Idx) :
    (iblk m c 2 t : Vec Ideal S7168x512 .fp8e4m3) y = at2 (a := 7168) (b := 8192) (arr2 m c) ((y 0).val) (512 * (t.val % 16) + (y 1).val) := by
  refine (at2_of (a := 7168) (b := 8192) (arr2 m c) (((cfg0.win 2).blk t).view.emb y) ?_ ?_).symm
  · blk_simp [index2 t]
  · blk_simp [index2 t]; omega

/-- Operand 3, as the launch finds it. -/
def arr3 (c : Dev nD) : Vec Ideal S1x8192 .f32 := V m c (Pipeline.arrRef spec0 3)
theorem iblk3_at (c : Dev nD) (t : Fin cfg0.N) (y : S1x512.Idx) :
    (iblk m c 3 t : Vec Ideal S1x512 .f32) y = at2 (a := 1) (b := 8192) (arr3 m c) ((y 0).val) (512 * (t.val % 16) + (y 1).val) := by
  refine (at2_of (a := 1) (b := 8192) (arr3 m c) (((cfg0.win 3).blk t).view.emb y) ?_ ?_).symm
  · blk_simp [index3 t]
  · blk_simp [index3 t]; omega

/-- Operand 4, as the launch finds it. -/
def arr4 (c : Dev nD) : Vec Ideal S24576x8192 .bf16 := V m c (Pipeline.arrRef spec0 4)
theorem iblk4_at (c : Dev nD) (t : Fin cfg0.N) (y : S512x512.Idx) :
    (iblk m c 4 t : Vec Ideal S512x512 .bf16) y = at2 (a := 24576) (b := 8192) (arr4 m c) (512 * (t.val / 16) + (y 0).val) (512 * (t.val % 16) + (y 1).val) := by
  refine (at2_of (a := 24576) (b := 8192) (arr4 m c) (((cfg0.win 4).blk t).view.emb y) ?_ ?_).symm
  · blk_simp [index4 t]; omega
  · blk_simp [index4 t]; omega

/-- Operand 5, as the launch finds it. -/
def arr5 (c : Dev nD) : Vec Ideal S1x8192 .bf16 := V m c (Pipeline.arrRef spec0 5)
theorem iblk5_at (c : Dev nD) (t : Fin cfg0.N) (y : S1x8192.Idx) :
    (iblk m c 5 t : Vec Ideal S1x8192 .bf16) y = at2 (a := 1) (b := 8192) (arr5 m c) ((y 0).val) ((y 1).val) := by
  refine (at2_of (a := 1) (b := 8192) (arr5 m c) (((cfg0.win 5).blk t).view.emb y) ?_ ?_).symm
  · blk_simp [index5 t]
  · blk_simp [index5 t]

end Cert.KernelIdeal.Run

end
-- ==== Proof.KI.Rows.lean ====
/- What the body stores at a grid point, as entries of the whole results. -/
module

public import proofs.«01_k».proof.Proof.KI.Blocks
public import Idealize.ShloMosaic.Lib.MatmulPlain

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx Cert.Spec

local notation "𝕄" => MT nD τ sig Unit (Elt Ideal) ℕ (UR sig nD τ) ℕ

variable (m : (ℓ : Loc nD τ sig) → Buf (Elt Ideal) ℓ) (ρ : Dev nD → PrngReg)

theorem pay2_at (a : Vec Ideal S512x7168 .bf16) (b : Vec Ideal S7168x512 .fp8e4m3) (r : Vec Ideal S512x512 .bf16) (s : Vec Ideal S1x512 .f32) (y : S512x512.Idx) :
    (k0_pay2 (F := Ideal) a b r s y : EReal) = r y + (∑ k : Fin 7168, (a (ValueIdx.ix2 (y 0) k) * b (ValueIdx.ix2 k (y 1)) : EReal)) * s (ValueIdx.ix2 0 (y 1)) := by
  obtain ⟨p, q, rfl⟩ : ∃ p q, y = ValueIdx.ix2 p q := ⟨y 0, y 1, ValueIdx.eq_ix2 y⟩
  have hm := Ideal.matmul_plain_apply (M := 512) (K := 7168) (N := 512) (φ₁ := .bf16) (φ₂ := .fp8e4m3) none a b (constant S512x512 .f32 0x00000000#32) p q
  have hd : dot_S512x7168_S7168x512_S512x512_1_0_0_1_n_n = DotDims.plain 512 7168 512 := rfl
  have hz : (constant (F := Ideal) S512x512 .f32 0x00000000#32 (ValueIdx.ix2 p q) : EReal) = 0 := Ideal.ofBits_zero_f32
  rw [hz, zero_add] at hm
  have hb := rowI (n := 512) (m := 512) (shapeCast S1x512 s shapeCasts_S1x512_S1x512) broadcasts_S1x512_S512x512 (ValueIdx.ix2 p q)
  rw [shapeCast_self] at hb
  unfold k0_pay2
  dsimp only [matmul]
  rw [hd]
  refine congrArg₂ (fun u v : EReal => u + v) ?_ (congrArg₂ (fun u v : EReal => u * v) hm ?_)
  · exact congrFun (shapeCast_self r _) _
  · exact (congrFun (congrArg (fun z => broadcastTo S512x512 z broadcasts_S1x512_S512x512) (shapeCast_self s shapeCasts_S1x512_S1x512)) (ValueIdx.ix2 p q)).trans hb

/-- The projection with its residual, entry by entry, over the whole arrays. -/
def hArr (c : Dev nD) : Vec Ideal S24576x8192 .bf16 := projArr (arr0 m c) (arr1 m c) (arr2 m c) (arr3 m c) (arr4 m c)
/-- The codes over the whole array. -/
def codeArr (c : Dev nD) : Vec Ideal S24576x8192 .fp8e4m3 := codesOf (hArr m c) (arr5 m c)
/-- The scales over the whole array. -/
def scaleArr (c : Dev nD) : Vec Ideal S24576x1 .f32 := scalesOf (hArr m c) (arr5 m c)
/-- The dequantised activations of the `i`-th block of rows. -/
def deqA (c : Dev nD) (i : ℕ) : Vec Ideal S512x7168 .bf16 := fun y =>
  (at2 (a := 24576) (b := 7168) (arr0 m c) (512 * i + (y 0).val) (y 1).val * at2 (a := 24576) (b := 56) (arr1 m c) (512 * i + (y 0).val) ((y 1).val / 128) : EReal)

theorem deq_blk (c : Dev nD) (t : Fin cfg0.N) : deq (iblk m c 0 t) (iblk m c 1 t) = deqA m c (t.val / 16) := by
  funext y
  have h0 := idx2_lt0 y
  have h1 := idx2_lt1 y
  unfold deq deqA
  have e0 : at2 (a := 512) (b := 7168) (iblk m c 0 t : Vec Ideal S512x7168 .fp8e4m3) (y 0).val (y 1).val = (iblk m c 0 t : Vec Ideal S512x7168 .fp8e4m3) y := at2_idx _ y
  have e1 : at2 (a := 512) (b := 56) (iblk m c 1 t : Vec Ideal S512x56 .f32) (y 0).val ((y 1).val / 128)
      = (iblk m c 1 t : Vec Ideal S512x56 .f32) (ValueIdx.ix2 ⟨(y 0).val, h0⟩ ⟨(y 1).val / 128, by omega⟩) := at2_of _ _ rfl rfl
  rw [e0, e1, iblk0_at, iblk1_at]

theorem tile_at (c : Dev nD) (t : Fin cfg0.N) (y : S512x512.Idx) :
    (k0_pay2 (F := Ideal) (deqA m c (t.val / 16)) (iblk m c 2 t) (iblk m c 4 t) (iblk m c 3 t) y : EReal)
      = at2 (a := 24576) (b := 8192) (hArr m c) (512 * (t.val / 16) + (y 0).val) (512 * (t.val % 16) + (y 1).val) := by
  have hN : t.val < 768 := lt_of_lt_of_eq t.isLt (show cfg0.N = 768 from N_0)
  have h0 := idx2_lt0 y
  have h1 := idx2_lt1 y
  rw [pay2_at, iblk4_at, iblk3_at]
  unfold hArr projArr
  rw [at2_apply (proj _ _ _ _ _) (by omega) (by omega)]
  unfold proj
  refine congrArg₂ (fun u v : EReal => u + v) rfl (congrArg₂ (fun u v : EReal => u * v) (Finset.sum_congr rfl fun k _ => congrArg₂ (fun u v : EReal => u * v) rfl ?_) rfl)
  rw [iblk2_at]

/-- The band that a point stores, beside what the row's earlier points stored. -/
theorem upd_ok (c : Dev nD) (t : Fin cfg0.N) (d : Vec Ideal S512x8192 .bf16)
    (hd : ∀ y : S512x8192.Idx, (y 1).val < 512 * (t.val % 16) → (d y : EReal) = at2 (a := 24576) (b := 8192) (hArr m c) (512 * (t.val / 16) + (y 0).val) (y 1).val)
    (y : S512x8192.Idx) (hy : (y 1).val < 512 * (t.val % 16 + 1)) :
    (upd (grid0.coords t 1).val (k0_pay2 (deqA m c (t.val / 16)) (iblk m c 2 t) (iblk m c 4 t) (iblk m c 3 t)) d y : EReal)
      = at2 (a := 24576) (b := 8192) (hArr m c) (512 * (t.val / 16) + (y 0).val) (y 1).val := by
  have h0 := idx2_lt0 y
  rw [crd1]
  unfold upd
  by_cases hj : 512 * (t.val % 16) ≤ (y 1).val
  · rw [if_pos ⟨hj, by omega⟩]
    have e := at2_of (a := 512) (b := 512) (k0_pay2 (F := Ideal) (deqA m c (t.val / 16)) (iblk m c 2 t) (iblk m c 4 t) (iblk m c 3 t))
      (ValueIdx.ix2 ⟨(y 0).val, h0⟩ ⟨(y 1).val - 512 * (t.val % 16), by omega⟩) (r := (y 0).val) (d := (y 1).val - 512 * (t.val % 16)) rfl rfl
    rw [e, tile_at]
    show at2 _ _ (512 * (t.val % 16) + ((y 1).val - 512 * (t.val % 16))) = _
    rw [Nat.add_sub_cancel' hj]
  · rw [if_neg fun h => hj h.1]
    exact hd y (by omega)

theorem row_eq (c : Dev nD) (i : ℕ) (X : Vec Ideal S512x8192 .bf16)
    (hX : ∀ y : S512x8192.Idx, (X y : EReal) = at2 (a := 24576) (b := 8192) (hArr m c) (512 * i + (y 0).val) (y 1).val) (r : ℕ) (hr : r < 512) :
    at2 (a := 512) (b := 8192) X r = at2 (a := 24576) (b := 8192) (hArr m c) (512 * i + r) := by
  funext d
  by_cases hd : d < 8192
  · rw [at2_of (a := 512) (b := 8192) X (ValueIdx.ix2 ⟨r, hr⟩ ⟨d, hd⟩) rfl rfl, hX]
  · unfold at2
    rw [dif_neg fun h => hd h.2, dif_neg fun h => hd h.2]

theorem gam_eq (c : Dev nD) (t : Fin cfg0.N) : (iblk m c 5 t : Vec Ideal S1x8192 .bf16) = arr5 m c := by
  funext y
  rw [iblk5_at]
  exact at2_idx (arr5 m c) y

theorem codes_ok (c : Dev nD) (t : Fin cfg0.N) (X : Vec Ideal S512x8192 .bf16)
    (hX : ∀ y : S512x8192.Idx, (X y : EReal) = at2 (a := 24576) (b := 8192) (hArr m c) (512 * (t.val / 16) + (y 0).val) (y 1).val) (y : S512x8192.Idx) :
    (codesV X (iblk m c 5 t) y : EReal) = at2 (a := 24576) (b := 8192) (codeArr m c) (512 * (t.val / 16) + (y 0).val) (y 1).val := by
  have hN : t.val < 768 := lt_of_lt_of_eq t.isLt (show cfg0.N = 768 from N_0)
  have h0 := idx2_lt0 y
  have h1 := idx2_lt1 y
  unfold codeArr codesOf
  rw [at2_apply (fun r d => codeOf (at2 (hArr m c) r) (at2 (arr5 m c) 0) d) (by omega) h1]
  unfold codesV codeOf
  rw [gam_eq, row_eq m c _ X hX _ h0]

theorem scales_ok (c : Dev nD) (t : Fin cfg0.N) (X : Vec Ideal S512x8192 .bf16)
    (hX : ∀ y : S512x8192.Idx, (X y : EReal) = at2 (a := 24576) (b := 8192) (hArr m c) (512 * (t.val / 16) + (y 0).val) (y 1).val) (y : S512x1.Idx) :
    (scalesV X (iblk m c 5 t) y : EReal) = at2 (a := 24576) (b := 1) (scaleArr m c) (512 * (t.val / 16) + (y 0).val) (y 1).val := by
  have hN : t.val < 768 := lt_of_lt_of_eq t.isLt (show cfg0.N = 768 from N_0)
  have h0 := idx2_lt0 y
  have h1 := idx2_lt1 y
  unfold scaleArr scalesOf
  rw [at2_apply (fun r _ => kscale (amax (at2 (hArr m c) r) (at2 (arr5 m c) 0))) (by omega) h1]
  unfold scalesV
  rw [gam_eq, row_eq m c _ X hX _ h0]

end Cert.KernelIdeal.Run

end
-- ==== Proof.KI.Value.lean ====
/- The kernel run: what every result array holds after it. -/
module

public import proofs.«01_k».proof.Proof.KI.ValA
public import proofs.«01_k».proof.Proof.KI.ValB
public import proofs.«01_k».proof.Proof.KI.ValC
public import proofs.«01_k».proof.Proof.KI.Rows
public import Idealize.ShloMosaic.Lib.Pipeline.ArrRel
public import Idealize.ShloMosaic.Lib.Pipeline.DatRel

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Run
open Idealize.ShloMosaic.ValueIdx Cert.Spec

local notation "𝕄" => MT nD τ sig Unit (Elt Ideal) ℕ (UR sig nD τ) ℕ

variable (m : (ℓ : Loc nD τ sig) → Buf (Elt Ideal) ℓ) (ρ : Dev nD → PrngReg)

/-- The windows of which only a relation is stated (6, 7, 8): the kernel's results. -/
def marks : Fin 9 → Bool := fun w => w.val == 6 || w.val == 7 || w.val == 8

/-- What the scratch holds between points: after a row block's first point, its dequantised activations. -/
def held (c : Dev nD) (s : ℕ) (d : Vec Ideal S512x7168 .bf16) : Prop := s % 16 ≠ 0 → d = deqA m c (s / 16)

/-- The invariant between points: the scratch at contents that meet `held`, and the generator register. -/
def Inv (c : Dev nD) (s : ℕ) : sProp 𝕄 :=
  iprop((∃ d, ⌜held m c s d⌝ ∗ owns (c : Thread nD τ) scM0_0 fullShare d) ∗ (∃ r, prngReg c r))

/-- The bands stored so far. -/
def RH (c : Dev nD) (t : Fin cfg0.N) (X : Vec Ideal S512x8192 .bf16) : Prop :=
  ∀ y : S512x8192.Idx, (y 1).val < 512 * (t.val % 16 + 1) → (X y : EReal) = at2 (a := 24576) (b := 8192) (hArr m c) (512 * (t.val / 16) + (y 0).val) (y 1).val
/-- The codes, at a row block's last point. -/
def RC (c : Dev nD) (t : Fin cfg0.N) (X : Vec Ideal S512x8192 .fp8e4m3) : Prop :=
  t.val % 16 = 15 → ∀ y : S512x8192.Idx, (X y : EReal) = at2 (a := 24576) (b := 8192) (codeArr m c) (512 * (t.val / 16) + (y 0).val) (y 1).val
/-- The scales, at a row block's last point. -/
def RS (c : Dev nD) (t : Fin cfg0.N) (X : Vec Ideal S512x1 .f32) : Prop :=
  t.val % 16 = 15 → ∀ y : S512x1.Idx, (X y : EReal) = at2 (a := 24576) (b := 1) (scaleArr m c) (512 * (t.val / 16) + (y 0).val) (y 1).val

/-- What is stated of each result window. -/
def Rl (c : Dev nD) (w : Fin cfg0.W) (t : Fin cfg0.N) (X : (cfg0.win w).block.Idx → Elt Ideal (cfg0.win w).elt) : Prop :=
  match w, X with
  | ⟨6, _⟩, X => RH m c t X
  | ⟨7, _⟩, X => RC m c t X
  | ⟨8, _⟩, X => RS m c t X
  | _, _ => True

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ s := Inv m c s.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, ⌜((dats m 0 c).toRRel marks (Rl m c)).Finds 6 t d⌝ ∗ owns (c : Thread nD τ) (ms0_6 t) fullShare d)
    ∗ (∃ d, ⌜((dats m 0 c).toRRel marks (Rl m c)).Finds 7 t d⌝ ∗ owns (c : Thread nD τ) (ms0_7 t) fullShare d)
    ∗ (∃ d, ⌜((dats m 0 c).toRRel marks (Rl m c)).Finds 8 t d⌝ ∗ owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, ⌜Rl m c 6 t d⌝ ∗ owns (c : Thread nD τ) (ms0_6 t) fullShare d)
    ∗ (∃ d, ⌜Rl m c 7 t d⌝ ∗ owns (c : Thread nD τ) (ms0_7 t) fullShare d)
    ∗ (∃ d, ⌜Rl m c 8 t d⌝ ∗ owns (c : Thread nD τ) (ms0_8 t) fullShare d))

/-- What the result window holds when a row block's later point begins: the bands of the earlier points. -/
theorem found (c : Dev nD) (t : Fin cfg0.N) (h0 : t.val % 16 ≠ 0) (Y : Vec Ideal S512x8192 .bf16)
    (hY : ((dats m 0 c).toRRel marks (Rl m c)).Finds 6 t Y) (y : S512x8192.Idx) (hy : (y 1).val < 512 * (t.val % 16)) :
    (Y y : EReal) = at2 (a := 24576) (b := 8192) (hArr m c) (512 * (t.val / 16) + (y 0).val) (y 1).val := by
  rw [Pipeline.RDat.finds_of_pos _ (w := 6) rfl (by omega)] at hY
  rcases hY with hf | hl
  · exact absurd ((flush0_6 _).mp hf) (by show ¬ (t.val - 1) % 16 = 15; omega)
  · have hr : RH m c ⟨t.val - 1, Nat.lt_of_le_of_lt (Nat.sub_le _ _) t.isLt⟩ Y := (dats m 0 c).toRRel_leaves (w := 6) rfl hl
    have e1 : (t.val - 1) % 16 + 1 = t.val % 16 := by omega
    have e2 : (t.val - 1) / 16 = t.val / 16 := by omega
    have h := hr y (by show _ < 512 * ((t.val - 1) % 16 + 1); rw [e1]; exact hy)
    rw [h]
    show at2 _ (512 * ((t.val - 1) / 16) + _) _ = _
    rw [e2]

set_option maxHeartbeats 2400000 in
theorem sound_A (c : Dev nD) (t : Fin cfg0.N) (h0 : t.val % 16 = 0) (h1 : ¬ t.val % 16 = 15) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  unfold Inv
  have hnext : held m c (t.val + 1) (deqA m c (t.val / 16)) := fun _ => congrArg (deqA m c) (by show t.val / 16 = (t.val + 1) / 16; omega)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  iintro ⟨⟨⟨%ds, %hs, HS0⟩, Hg⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩, ⟨%d8, %hd8, H8⟩⟩
  iapply ((run_A c (grid0.coords t) _ _ _ _ _ _ _ _ _ _ _ _ _ _ _ _ _ _ _ _  ((hcond0_0 t).mpr h0) (fun h => h1 ((hcond0_1 t).mp h)) (iblk m c 0 t) (iblk m c 1 t) (iblk m c 2 t) (iblk m c 3 t) (iblk m c 4 t) (iblk m c 5 t) d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexists _; iexact HS0
  iintro ⟨H0, H1, H2, H3, H4, H5, H6, ⟨%e7, H7⟩, ⟨%e8, H8⟩, HS0⟩
  rw [deq_blk]
  isplitl [HS0 Hg]
  · isplitl [HS0]
    · iexists _
      isplitr; swap
      · iexact HS0
      ipureintro
      exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap
    · iexact H6
    ipureintro
    exact upd_ok m c t d6 (fun y hy => absurd hy (by rw [h0]; omega))
  isplitl [H7]
  · iexists _; isplitr; swap
    · iexact H7
    ipureintro
    exact fun h => absurd h h1
  iexists _; isplitr; swap
  · iexact H8
  ipureintro
  exact fun h => absurd h h1

set_option maxHeartbeats 2400000 in
theorem sound_B (c : Dev nD) (t : Fin cfg0.N) (h0 : ¬ t.val % 16 = 0) (h1 : ¬ t.val % 16 = 15) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  unfold Inv
  have hnext : held m c (t.val + 1) (deqA m c (t.val / 16)) := fun _ => congrArg (deqA m c) (by show t.val / 16 = (t.val + 1) / 16; omega)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  iintro ⟨⟨⟨%ds, %hs, HS0⟩, Hg⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩, ⟨%d8, %hd8, H8⟩⟩
  obtain rfl := hs h0
  iapply ((run_B c (grid0.coords t) _ _ _ _ _ _ _ _ _ _ _ _ _ _ _ _ _ _ _ _  (fun h => h0 ((hcond0_0 t).mp h)) (fun h => h1 ((hcond0_1 t).mp h)) (iblk m c 0 t) (iblk m c 1 t) (iblk m c 2 t) (iblk m c 3 t) (iblk m c 4 t) (iblk m c 5 t) d6 (deqA m c (t.val / 16))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, ⟨%e7, H7⟩, ⟨%e8, H8⟩, HS0⟩
  isplitl [HS0 Hg]
  · isplitl [HS0]
    · iexists _
      isplitr; swap
      · iexact HS0
      ipureintro
      exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap
    · iexact H6
    ipureintro
    exact upd_ok m c t d6 (found m c t h0 d6 hd6)
  isplitl [H7]
  · iexists _; isplitr; swap
    · iexact H7
    ipureintro
    exact fun h => absurd h h1
  iexists _; isplitr; swap
  · iexact H8
  ipureintro
  exact fun h => absurd h h1

set_option maxHeartbeats 2400000 in
theorem sound_C (c : Dev nD) (t : Fin cfg0.N) (h0 : ¬ t.val % 16 = 0) (h1 : t.val % 16 = 15) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  unfold Inv
  have hnext : held m c (t.val + 1) (deqA m c (t.val / 16)) := fun h => absurd (show (t.val + 1) % 16 = 0 by omega) h
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  iintro ⟨⟨⟨%ds, %hs, HS0⟩, Hg⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩, ⟨%d8, %hd8, H8⟩⟩
  obtain rfl := hs h0
  iapply ((run_C c (grid0.coords t) _ _ _ _ _ _ _ _ _ _ _ _ _ _ _ _ _ _ _ _  (fun h => h0 ((hcond0_0 t).mp h)) ((hcond0_1 t).mpr h1) (iblk m c 0 t) (iblk m c 1 t) (iblk m c 2 t) (iblk m c 3 t) (iblk m c 4 t) (iblk m c 5 t) d6 (deqA m c (t.val / 16))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexists _
      isplitr; swap
      · iexact HS0
      ipureintro
      exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap
    · iexact H6
    ipureintro
    exact upd_ok m c t d6 (found m c t h0 d6 hd6)
  isplitl [H7]
  · iexists _; isplitr; swap
    · iexact H7
    ipureintro
    exact fun _ => codes_ok m c t _ (fun y => upd_ok m c t d6 (found m c t h0 d6 hd6) y (by have := idx2_lt1 y; rw [h1]; omega))
  iexists _; isplitr; swap
  · iexact H8
  ipureintro
  exact fun _ => scales_ok m c t _ (fun y => upd_ok m c t d6 (found m c t h0 d6 hd6) y (by have := idx2_lt1 y; rw [h1]; omega))

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 16 = 0
  · exact sound_A m c t h0 (by omega)
  · by_cases h1 : t.val % 16 = 15
    · exact sound_C m c t h0 h1
    · exact sound_B m c t h0 h1

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : Pipeline.BodyObligationRel (dats m 0 c) (defs₀ (F := Ideal)) Variants.none () Set.univ marks (Rl m c) := fun t => by
  rw [bigSep_W0, bigSep_W0, defs₀_row]
  exact triple_restated (sound_body m c t) rfl .rfl fun _ => .rfl

/-- The relational proof data. -/
def rdat (c : Dev nD) : Pipeline.RDat τ (Elt Ideal) Unit ℕ (UR sig nD τ) ℕ cfg0 c := (dats m 0 c).toRRel marks (Rl m c)

theorem inv_in (c : Dev nD) : (Pipeline.ΦA spec0 c : sProp 𝕄) ⊢ Inv m c 0 := by
  rw [PhiA0_eq]
  unfold Inv
  iintro ⟨⟨%d, H⟩, Hg⟩
  isplitl [H]
  · iexists d; isplitr; swap
    · iexact H
    ipureintro
    exact fun h => absurd rfl h
  iexact Hg
theorem inv_out (c : Dev nD) (s : ℕ) : Inv m c s ⊢ (Pipeline.ΦA spec0 c : sProp 𝕄) := by
  rw [PhiA0_eq]
  unfold Inv
  iintro ⟨⟨%d, -, H⟩, Hg⟩
  isplitl [H]
  · iexists d; iexact H
  iexact Hg

set_option backward.isDefEq.respectTransparency.types false in
/-- The launch: its post over the relational data, and every semaphore counter at zero. -/
theorem run_main_quiescent : θ_run defs (onTc (τ := τ) (main (F := Ideal))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun c => inv_in m c) (hout := fun c => inv_out m c _)

end Cert.KernelIdeal.Val

end
-- ==== Proof.KI.Results.lean ====
/- The kernel run read at its results: every array after the run, entry by entry. -/
module

public import proofs.«01_k».proof.Proof.KI.Value
public import Idealize.ShloMosaic.Lib.Pipeline.Covers

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Run
open Idealize.ShloMosaic.ValueIdx Cert.Spec

local notation "𝕄" => MT nD τ sig Unit (Elt Ideal) ℕ (UR sig nD τ) ℕ

variable (m : (ℓ : Loc nD τ sig) → Buf (Elt Ideal) ℓ) (ρ : Dev nD → PrngReg)

/-- Result window 6's blocks cover its array: one block of rows for each row of the grid. -/
theorem covers6 : (cfg0.win 6).Covers :=
  (cfg0.win 6).covers_of_indexMap_surj rfl (by decide) fun β => by
    have h0 : (β (0 : Fin 2)).val < 48 := lt_of_lt_of_eq (β (0 : Fin 2)).isLt (by decide : (cfg0.win 6).nblk (0 : Fin 2) = 48)
    have h1 : (β (1 : Fin 2)).val < 1 := lt_of_lt_of_eq (β (1 : Fin 2)).isLt (by decide : (cfg0.win 6).nblk (1 : Fin 2) = 1)
    refine ⟨fun a => match a with
      | ⟨0, _⟩ => ⟨(β (0 : Fin 2)).val, h0⟩
      | ⟨1, _⟩ => ⟨0, (Nat.succ_pos 15 : 0 < 16)⟩, fun a => ?_⟩
    match a with
    | ⟨0, _⟩ => exact wordNat (β (0 : Fin 2)).val (by omega)
    | ⟨1, _⟩ => exact (show 0 = (β (1 : Fin 2)).val by omega)

theorem result6 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 6 cfg0.N = hArr m c := by
  refine ((rdat m c).withAfter after).arrAt_eq_of_covers 6 (hArr m c) covers6 fun t hf y => ?_
  have hr : RH m c t (after 6 t) := (dats m 0 c).toRRel_leaves (w := 6) rfl (hL 6 t hf)
  have ht : t.val % 16 = 15 := (flush0_6 t).mp hf
  have hy1 : (y 1).val < 8192 := (y 1).isLt
  have hx : (after 6 t y : EReal) = at2 (a := 24576) (b := 8192) (hArr m c) (512 * (t.val / 16) + (y 0).val) (y 1).val := hr y (by rw [ht]; exact hy1)
  refine Eq.trans (b := after 6 t y) rfl (hx.trans (at2_of (a := 24576) (b := 8192) (hArr m c) (((cfg0.win 6).blk t).view.emb y) ?_ ?_))
  · blk_simp [index6 t]; omega
  · blk_simp [index6 t]

/-- Result window 7's blocks cover its array: one block of rows for each row of the grid. -/
theorem covers7 : (cfg0.win 7).Covers :=
  (cfg0.win 7).covers_of_indexMap_surj rfl (by decide) fun β => by
    have h0 : (β (0 : Fin 2)).val < 48 := lt_of_lt_of_eq (β (0 : Fin 2)).isLt (by decide : (cfg0.win 7).nblk (0 : Fin 2) = 48)
    have h1 : (β (1 : Fin 2)).val < 1 := lt_of_lt_of_eq (β (1 : Fin 2)).isLt (by decide : (cfg0.win 7).nblk (1 : Fin 2) = 1)
    refine ⟨fun a => match a with
      | ⟨0, _⟩ => ⟨(β (0 : Fin 2)).val, h0⟩
      | ⟨1, _⟩ => ⟨0, (Nat.succ_pos 15 : 0 < 16)⟩, fun a => ?_⟩
    match a with
    | ⟨0, _⟩ => exact wordNat (β (0 : Fin 2)).val (by omega)
    | ⟨1, _⟩ => exact (show 0 = (β (1 : Fin 2)).val by omega)

theorem result7 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 7 cfg0.N = codeArr m c := by
  refine ((rdat m c).withAfter after).arrAt_eq_of_covers 7 (codeArr m c) covers7 fun t hf y => ?_
  have hr : RC m c t (after 7 t) := (dats m 0 c).toRRel_leaves (w := 7) rfl (hL 7 t hf)
  have ht : t.val % 16 = 15 := (flush0_7 t).mp hf
  have hy1 : (y 1).val < 8192 := (y 1).isLt
  have hx : (after 7 t y : EReal) = at2 (a := 24576) (b := 8192) (codeArr m c) (512 * (t.val / 16) + (y 0).val) (y 1).val := hr ht y
  refine Eq.trans (b := after 7 t y) rfl (hx.trans (at2_of (a := 24576) (b := 8192) (codeArr m c) (((cfg0.win 7).blk t).view.emb y) ?_ ?_))
  · blk_simp [index7 t]; omega
  · blk_simp [index7 t]

/-- Result window 8's blocks cover its array: one block of rows for each row of the grid. -/
theorem covers8 : (cfg0.win 8).Covers :=
  (cfg0.win 8).covers_of_indexMap_surj rfl (by decide) fun β => by
    have h0 : (β (0 : Fin 2)).val < 48 := lt_of_lt_of_eq (β (0 : Fin 2)).isLt (by decide : (cfg0.win 8).nblk (0 : Fin 2) = 48)
    have h1 : (β (1 : Fin 2)).val < 1 := lt_of_lt_of_eq (β (1 : Fin 2)).isLt (by decide : (cfg0.win 8).nblk (1 : Fin 2) = 1)
    refine ⟨fun a => match a with
      | ⟨0, _⟩ => ⟨(β (0 : Fin 2)).val, h0⟩
      | ⟨1, _⟩ => ⟨0, (Nat.succ_pos 15 : 0 < 16)⟩, fun a => ?_⟩
    match a with
    | ⟨0, _⟩ => exact wordNat (β (0 : Fin 2)).val (by omega)
    | ⟨1, _⟩ => exact (show 0 = (β (1 : Fin 2)).val by omega)

theorem result8 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m c).Leaves w u (after w u)) :
    ((rdat m c).withAfter after).arrAt 8 cfg0.N = scaleArr m c := by
  refine ((rdat m c).withAfter after).arrAt_eq_of_covers 8 (scaleArr m c) covers8 fun t hf y => ?_
  have hr : RS m c t (after 8 t) := (dats m 0 c).toRRel_leaves (w := 8) rfl (hL 8 t hf)
  have ht : t.val % 16 = 15 := (flush0_8 t).mp hf
  have hy1 : (y 1).val < 1 := (y 1).isLt
  have hx : (after 8 t y : EReal) = at2 (a := 24576) (b := 1) (scaleArr m c) (512 * (t.val / 16) + (y 0).val) (y 1).val := hr ht y
  refine Eq.trans (b := after 8 t y) rfl (hx.trans (at2_of (a := 24576) (b := 1) (scaleArr m c) (((cfg0.win 8).blk t).view.emb y) ?_ ?_))
  · blk_simp [index8 t]; omega
  · blk_simp [index8 t]

/-- The kernel run: the three results at their closed forms, the arguments unchanged. -/
theorem run : θ_run defs (onTc (τ := τ) (main (F := Ideal))) ⟨m, fun _ => 0, ρ⟩ (fun r => ∀ c : Dev nD,
      r.2.mem ((c.tc : Thread nD τ).loc main_v5_0) = hArr m c
      ∧ r.2.mem ((c.tc : Thread nD τ).loc main_v5_1) = codeArr m c
      ∧ r.2.mem ((c.tc : Thread nD τ).loc main_v5_2) = scaleArr m c) :=
  (θ_run defs _ _).mono (fun r h c => by
    obtain ⟨after, hL, hA⟩ := Pipeline.RDat.FramePost.exists_exact h.1 c
    exact ⟨(hA 6).trans (result6 m c after hL), (hA 7).trans (result7 m c after hL), (hA 8).trans (result8 m c after hL)⟩)
    (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (rdat m) (A_eq m) ((θ_run defs _ _).mono (fun _ h => h.1) (run_main_quiescent m ρ))

/-- The frame: every run ends, with the arguments unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Val

end
-- ==== Proof.KI.RefSpec.lean ====
/- The scale of a row as the reference writes it: the least power of two above the value. -/
module

public import proofs.«01_k».proof.Proof.KI.Spec

@[expose] public section

noncomputable section

namespace Cert.Spec

open Idealize.ShloMosaic Idealize.ShloMosaic.ValueIdx

/-- The exponent as the reference computes it. -/
def expR (a : EReal) : BitVec 32 :=
  Scalar.select (Ideal.cmp .olt a (bits 0x00800000#32)) 0#32
    ((Finset.univ : Finset (Fin 254)).fold IKind.minsi.op 2147483647#32 fun l =>
      Scalar.select (Ideal.cmp .olt a (Ideal.exp2 (((IntOp.subi (BitVec.ofNat 32 l.val) 125#32).toInt : ℝ) : EReal)))
        (IntOp.subi (BitVec.ofNat 32 l.val) 125#32) 128#32)
/-- The scale as the reference computes it. -/
def rscale (a : EReal) : EReal := Ideal.exp2 (((expR a).toInt : ℝ) : EReal)
/-- The reciprocal scale as the reference computes it. -/
def rinv (a : EReal) : EReal := Ideal.exp2 (bits 0x00000000#32 - (((expR a).toInt : ℝ) : EReal))

/-- The codes of an array of rows, with the reference's scale. -/
def rcodesOf (H : (⟨2, ![24576, 8192]⟩ : Shape).Idx → EReal) (g : (⟨2, ![1, 8192]⟩ : Shape).Idx → EReal) :
    (⟨2, ![24576, 8192]⟩ : Shape).Idx → EReal :=
  fun y => clip (nrm (at2 H (y 0).val) (at2 g 0) (y 1).val * rinv (amax (at2 H (y 0).val) (at2 g 0)))
/-- The scales of an array of rows, as the reference computes them. -/
def rscalesOf (H : (⟨2, ![24576, 8192]⟩ : Shape).Idx → EReal) (g : (⟨2, ![1, 8192]⟩ : Shape).Idx → EReal) :
    (⟨2, ![24576, 1]⟩ : Shape).Idx → EReal := fun y => rscale (amax (at2 H (y 0).val) (at2 g 0))

end Cert.Spec

end
-- ==== Proof.KI.Folds.lean ====
/- Counts and minima over the powers of two, by evaluation. -/
module

public import proofs.«01_k».proof.Proof.KI.Spec

@[expose] public section

noncomputable section

namespace Cert.Spec

open Idealize.ShloMosaic Idealize.ShloMosaic.ValueIdx

theorem fold_add : ∀ n : Fin 252, ((Finset.univ : Finset (Fin 255)).fold IKind.add.op 0#32 fun l =>
    Scalar.select (BitVec.ofBool (decide (n.val < l.val))) 0#32 1#32) = BitVec.ofNat 32 (n.val + 1) := by decide +kernel
theorem fold_zero : ((Finset.univ : Finset (Fin 255)).fold IKind.add.op 0#32 fun _ => 0#32) = 0#32 := by decide +kernel
theorem fold_min : ∀ n : Fin 252, ((Finset.univ : Finset (Fin 254)).fold IKind.minsi.op 2147483647#32 fun l =>
    Scalar.select (BitVec.ofBool (decide (n.val ≤ l.val))) (IntOp.subi (BitVec.ofNat 32 l.val) 125#32) 128#32)
      = IntOp.subi (BitVec.ofNat 32 n.val) 125#32 := by decide +kernel

end Cert.Spec

end
-- ==== Proof.KI.Expo.lean ====
/- The scale of a row: the exponent found by comparing with powers of two, as the kernel and as the reference find it. -/
module

public import proofs.«01_k».proof.Proof.KI.RefSpec
public import proofs.«01_k».proof.Proof.KI.Folds
public import Mathlib.Analysis.SpecialFunctions.Pow.Real

@[expose] public section

noncomputable section

namespace Cert.Spec

open Idealize.ShloMosaic Idealize.ShloMosaic.ValueIdx

/-- A power of two as an extended real. -/
def p2 (z : ℤ) : EReal := (((2 : ℝ) ^ z : ℝ) : EReal)

theorem p2_le {a b : ℤ} (h : a ≤ b) : p2 a ≤ p2 b := by
  unfold p2
  exact EReal.coe_le_coe_iff.mpr (zpow_le_zpow_right₀ (by norm_num) h)

theorem word_fields : ∀ e : Fin 255, ((BitVec.ofNat 32 e.val <<< 23).extractLsb' 31 1 == 1#1) = false
    ∧ ((BitVec.ofNat 32 e.val <<< 23).extractLsb' 23 8).toNat = e.val ∧ ((BitVec.ofNat 32 e.val <<< 23).extractLsb' 0 23).toNat = 0 := by
  decide +kernel

/-- The word of a normal power of two. -/
theorem bits_pow (e : ℕ) (h1 : 1 ≤ e) (h2 : e ≤ 254) : bits (BitVec.ofNat 32 e <<< 23) = p2 ((e : ℤ) - 127) := by
  obtain ⟨f0, f1, f2⟩ := word_fields ⟨e, by omega⟩
  dsimp only at f0 f1 f2
  show Ideal.ieee 8 23 (BitVec.ofNat 32 e <<< 23) = _
  unfold Ideal.ieee p2
  dsimp only
  rw [f0, f1, f2, if_neg (by omega), if_neg (by omega)]
  refine congrArg Real.toEReal ?_
  rw [if_neg (by decide), one_mul]
  have e1 : ((e : ℤ) - 127) = 23 + ((e : ℤ) - (2 ^ (8 - 1) - 1) - 23) := by norm_num
  rw [e1, zpow_add₀ (by norm_num)]
  norm_num

theorem edge_word : ∀ l : Fin 255, IntOp.shli .vector (IntOp.addi (BitVec.ofNat 32 l.val) 1#32) 23#32 = BitVec.ofNat 32 (l.val + 1) <<< 23 := by
  decide +kernel

theorem edge_eq (l : Fin 255) (h : l.val < 254) : edge l.val = p2 ((l.val : ℤ) - 126) := by
  unfold edge
  rw [edge_word l, bits_pow _ (by omega) (by omega)]
  congr 1; push_cast; ring

theorem edge_top : edge 254 = ⊤ := by
  unfold edge
  rw [edge_word ⟨254, by decide⟩]
  show Ideal.ieee 8 23 (BitVec.ofNat 32 255 <<< 23) = _
  simp [Ideal.ieee]

theorem exp2_int (z : ℤ) : Ideal.exp2 (((z : ℤ) : ℝ) : EReal) = p2 z := by
  rw [Ideal.exp2_coe]
  exact congrArg Real.toEReal (Real.rpow_intCast 2 z)

theorem exp2_neg_int (z : ℤ) : Ideal.exp2 (bits 0x00000000#32 - (((z : ℤ) : ℝ) : EReal)) = p2 (-z) := by
  rw [bits_zero, zero_sub, ← exp2_int (-z)]
  congr 1
  push_cast
  rfl

theorem cmp_olt (x y : EReal) : Ideal.cmp .olt x y = BitVec.ofBool (decide (x < y)) := rfl

theorem toInt_l : ∀ l : Fin 254, (IntOp.subi (BitVec.ofNat 32 l.val) 125#32).toInt = (l.val : ℤ) - 125 := by decide +kernel

theorem kexp_words : ∀ n : Fin 252,
    IntOp.shli .vector (IntOp.addi (Scalar.select (IntOp.cmpi .eq (BitVec.ofNat 32 (n.val + 1)) 0#32) 0#32 (IntOp.subi (BitVec.ofNat 32 (n.val + 1)) 126#32)) 127#32) 23#32
        = BitVec.ofNat 32 (n.val + 2) <<< 23
    ∧ IntOp.shli .vector (IntOp.addi (IntOp.subi 0#32 (Scalar.select (IntOp.cmpi .eq (BitVec.ofNat 32 (n.val + 1)) 0#32) 0#32 (IntOp.subi (BitVec.ofNat 32 (n.val + 1)) 126#32))) 127#32) 23#32
        = BitVec.ofNat 32 (252 - n.val) <<< 23 := by decide +kernel

/-- A real in the range of the normal scales lies between two powers of two. -/
theorem bracket (a : EReal) (h1 : p2 (-126) ≤ a) (h2 : a < p2 126) :
    ∃ n : ℕ, n ≤ 251 ∧ p2 ((n : ℤ) - 126) ≤ a ∧ a < p2 ((n : ℤ) - 125) := by
  induction a with
  | bot => exact absurd h1 (by unfold p2; exact not_le.mpr (EReal.bot_lt_coe _))
  | top => exact absurd h2 (by unfold p2; exact not_lt.mpr le_top)
  | coe r =>
    unfold p2 at h1 h2
    rw [EReal.coe_le_coe_iff] at h1
    rw [EReal.coe_lt_coe_iff] at h2
    have hr : 0 < r := lt_of_lt_of_le (by positivity) h1
    obtain ⟨z, hz1, hz2⟩ := exists_mem_Ico_zpow hr (by norm_num : (1 : ℝ) < 2)
    have b1 : (-126 : ℤ) < z + 1 := (zpow_lt_zpow_iff_right₀ (by norm_num : (1 : ℝ) < 2)).mp (lt_of_le_of_lt h1 hz2)
    have b2 : z < 126 := (zpow_lt_zpow_iff_right₀ (by norm_num : (1 : ℝ) < 2)).mp (lt_of_le_of_lt hz1 h2)
    refine ⟨(z + 126).toNat, by omega, ?_, ?_⟩
    · have e : (((z + 126).toNat : ℕ) : ℤ) - 126 = z := by omega
      rw [e]; exact EReal.coe_le_coe_iff.mpr hz1
    · have e : (((z + 126).toNat : ℕ) : ℤ) - 125 = z + 1 := by omega
      rw [e]; exact EReal.coe_lt_coe_iff.mpr hz2

theorem lt_edge (a : EReal) (n : ℕ) (hn : n ≤ 251) (h1 : p2 ((n : ℤ) - 126) ≤ a) (h2 : a < p2 ((n : ℤ) - 125)) (l : Fin 255) :
    (a < edge l.val) ↔ n < l.val := by
  by_cases hl : l.val < 254
  · rw [edge_eq l hl]
    constructor
    · intro h
      by_contra hc
      exact absurd (lt_of_lt_of_le h (p2_le (by omega : (l.val : ℤ) - 126 ≤ (n : ℤ) - 126))) (not_lt.mpr h1)
    · intro h
      exact lt_of_lt_of_le h2 (p2_le (by omega))
  · have e : l.val = 254 := by omega
    rw [e, edge_top]
    exact ⟨fun _ => by omega, fun _ => lt_of_lt_of_le h2 le_top⟩

theorem lt_pow (a : EReal) (n : ℕ) (h1 : p2 ((n : ℤ) - 126) ≤ a) (h2 : a < p2 ((n : ℤ) - 125)) (l : Fin 254) :
    (a < p2 ((l.val : ℤ) - 125)) ↔ n ≤ l.val := by
  constructor
  · intro h
    by_contra hc
    exact absurd (lt_of_lt_of_le h (p2_le (by omega : (l.val : ℤ) - 125 ≤ (n : ℤ) - 126))) (not_lt.mpr h1)
  · intro h
    exact lt_of_lt_of_le h2 (p2_le (by omega))

theorem tiny_word : BitVec.ofNat 32 1 <<< 23 = 0x00800000#32 := by decide +kernel
theorem one_word : BitVec.ofNat 32 127 <<< 23 = 0x3F800000#32 := by decide +kernel
theorem kexp_zero :
    IntOp.shli .vector (IntOp.addi (Scalar.select (IntOp.cmpi .eq 0#32 0#32) 0#32 (IntOp.subi 0#32 126#32)) 127#32) 23#32 = 0x3F800000#32
    ∧ IntOp.shli .vector (IntOp.addi (IntOp.subi 0#32 (Scalar.select (IntOp.cmpi .eq 0#32 0#32) 0#32 (IntOp.subi 0#32 126#32))) 127#32) 23#32
        = 0x3F800000#32 := by decide +kernel
theorem tiny_eq : bits 0x00800000#32 = p2 (-126) := by
  rw [← tiny_word, bits_pow 1 (by omega) (by omega)]
  congr 1
theorem one_eq : bits 0x3F800000#32 = p2 0 := by
  rw [← one_word, bits_pow 127 (by omega) (by omega)]
  congr 1
theorem sel_false (x y : BitVec 32) : Scalar.select (BitVec.ofBool false) x y = y := rfl
theorem zero_int : (0#32).toInt = 0 := by decide +kernel

/-- The two ways to find the scale agree below 2^126. -/
theorem scale_eq (a : EReal) (h : a < p2 126) : rscale a = kscale a ∧ rinv a = kinv a := by
  by_cases ht : a < p2 (-126)
  · have hk : cntK a = 0#32 := by
      unfold cntK
      refine Eq.trans (Finset.fold_congr fun l _ => ?_) fold_zero
      have hlt : a < edge l.val := by
        by_cases hl : l.val < 254
        · rw [edge_eq l hl]; exact lt_of_lt_of_le ht (p2_le (by omega))
        · have e : l.val = 254 := by omega
          rw [e, edge_top]; exact lt_of_lt_of_le ht le_top
      rw [cmp_olt, decide_eq_true hlt]; rfl
    have hr : expR a = 0#32 := by
      unfold expR
      rw [tiny_eq, cmp_olt, decide_eq_true ht]; rfl
    refine ⟨?_, ?_⟩
    · unfold rscale kscale expK
      rw [hr, hk, exp2_int, zero_int, kexp_zero.1, one_eq]
    · unfold rinv kinv expK
      rw [hr, hk, exp2_neg_int, zero_int, kexp_zero.2, one_eq, neg_zero]
  · obtain ⟨n, hn, h1, h2⟩ := bracket a (not_lt.mp ht) h
    have hk : cntK a = BitVec.ofNat 32 (n + 1) := by
      unfold cntK
      refine Eq.trans (Finset.fold_congr fun l _ => ?_) (fold_add ⟨n, by omega⟩)
      rw [cmp_olt, decide_eq_decide.mpr (lt_edge a n hn h1 h2 l)]
    have hr : expR a = IntOp.subi (BitVec.ofNat 32 n) 125#32 := by
      unfold expR
      rw [tiny_eq, cmp_olt, decide_eq_false ht, sel_false]
      refine Eq.trans (Finset.fold_congr fun l _ => ?_) (fold_min ⟨n, by omega⟩)
      rw [cmp_olt, exp2_int, toInt_l l, decide_eq_decide.mpr (lt_pow a n h1 h2 l)]
    obtain ⟨w1, w2⟩ := kexp_words ⟨n, by omega⟩
    have hi : (IntOp.subi (BitVec.ofNat 32 n) 125#32).toInt = (n : ℤ) - 125 := toInt_l ⟨n, by omega⟩
    refine ⟨?_, ?_⟩
    · unfold rscale kscale expK
      rw [hr, hk, exp2_int, hi, w1, bits_pow _ (by omega) (by omega)]
      congr 1; push_cast; ring
    · unfold rinv kinv expK
      rw [hr, hk, exp2_neg_int, hi, w2, bits_pow _ (by omega) (by omega)]
      congr 1; push_cast [show n ≤ 252 by omega]; ring

end Cert.Spec

end
-- ==== Proof.KI.Bound.lean ====
/- A bound on the normalised rows: with a bounded weight, the value the scale is taken of stays below 2^126. -/
module

public import proofs.«01_k».proof.Proof.KI.Expo

@[expose] public section

noncomputable section

namespace Cert.Spec

open Idealize.ShloMosaic Idealize.ShloMosaic.ValueIdx

theorem bits_inv_rows : bits 0x39000000#32 = ((1 / 8192 : ℝ) : EReal) := by
  show Ideal.ieee 8 23 0x39000000#32 = _
  simp [Ideal.ieee]
  rw [← EReal.coe_mul]
  exact congrArg Real.toEReal (by norm_num)

theorem bits_eps : ∃ e : ℝ, 0 < e ∧ bits 0x3727C5AC#32 = (e : EReal) := by
  refine ⟨10995116 * (2 : ℝ) ^ (-40 : ℤ), by positivity, ?_⟩
  show Ideal.ieee 8 23 0x3727C5AC#32 = _
  simp [Ideal.ieee]
  try rw [← EReal.coe_mul]
  try exact congrArg Real.toEReal (by norm_num)

theorem bits_inv_max : ∃ e : ℝ, 0 ≤ e ∧ e ≤ 1 / 440 ∧ bits 0x3B124925#32 = (e : EReal) := by
  refine ⟨9586981 * (2 : ℝ) ^ (-32 : ℤ), by positivity, by norm_num, ?_⟩
  show Ideal.ieee 8 23 0x3B124925#32 = _
  simp [Ideal.ieee]
  try rw [← EReal.coe_mul]
  try exact congrArg Real.toEReal (by norm_num)

theorem bits_gam : bits 0x7F7FC99E#32 ≤ (((2 : ℝ) ^ 128 : ℝ) : EReal) := by
  have e : bits 0x7F7FC99E#32 = ((16763294 * (2 : ℝ) ^ (104 : ℤ) : ℝ) : EReal) := by
    show Ideal.ieee 8 23 0x7F7FC99E#32 = _
    simp [Ideal.ieee]
    try rw [← EReal.coe_mul]
    try exact congrArg Real.toEReal (by norm_num)
  rw [e, EReal.coe_le_coe_iff]
  norm_num

theorem abs_coe (r : ℝ) : max (r : EReal) (-(r : EReal)) = ((|r| : ℝ) : EReal) := by
  rw [← EReal.coe_neg]
  exact (EReal.coe_strictMono.monotone.map_max (a := r) (b := -r)).symm

theorem coe_sum (f : ℕ → ℝ) (s : Finset ℕ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

theorem sq_nonneg' (x : EReal) : 0 ≤ x * x := by
  rcases le_total 0 x with h | h
  · exact mul_nonneg h h
  · have : x * x = (-x) * (-x) := by rw [neg_mul_neg]
    rw [this]
    have h2 : 0 ≤ -x := EReal.neg_nonneg.mpr h
    exact mul_nonneg h2 h2

/-- A normalised element is at most 91 times the bound on the weights. -/
theorem nrm_le (h g : ℕ → EReal) (hg : ∀ d < 8192, max (g d) (-(g d)) ≤ bits 0x7F7FC99E#32) (d : ℕ) (hd : d < 8192) :
    max (nrm h g d) (-(nrm h g d)) ≤ ((91 * 2 ^ 128 : ℝ) : EReal) := by
  have hM := le_trans (hg d hd) bits_gam
  obtain ⟨G, hG⟩ : ∃ G : ℝ, g d = (G : EReal) := by
    induction hx : g d with
    | bot =>
      rw [hx] at hM
      exact absurd (le_trans (le_max_right _ _) hM) (not_le.mpr (EReal.coe_lt_top _))
    | top =>
      rw [hx] at hM
      exact absurd (le_trans (le_max_left _ _) hM) (not_le.mpr (EReal.coe_lt_top _))
    | coe r => exact ⟨r, rfl⟩
  rw [hG, abs_coe, EReal.coe_le_coe_iff] at hM
  obtain ⟨e, he, hE⟩ := bits_eps
  by_cases hf : ∀ i < 8192, ∃ r : ℝ, h i = (r : EReal)
  · choose! f hf using hf
    have hS : ∑ i ∈ Finset.range 8192, h i * h i = ((∑ i ∈ Finset.range 8192, f i * f i : ℝ) : EReal) := by
      rw [coe_sum]
      refine Finset.sum_congr rfl fun i hi => ?_
      rw [hf i (Finset.mem_range.mp hi), EReal.coe_mul]
    have hle : f d * f d ≤ ∑ i ∈ Finset.range 8192, f i * f i :=
      Finset.single_le_sum (f := fun i => f i * f i) (fun i _ => mul_self_nonneg _) (Finset.mem_range.mpr hd)
    have hpos : 0 ≤ ∑ i ∈ Finset.range 8192, f i * f i := Finset.sum_nonneg fun i _ => mul_self_nonneg _
    generalize ∑ i ∈ Finset.range 8192, f i * f i = S at hS hle hpos
    have ht : 0 < S * (1 / 8192) + e := by positivity
    have hr : rstd h = (((Real.sqrt (S * (1 / 8192) + e))⁻¹ : ℝ) : EReal) := by
      unfold rstd
      rw [hS, bits_inv_rows, hE, ← EReal.coe_mul, ← EReal.coe_add, Ideal.rsqrt_coe, if_neg (not_lt.mpr ht.le), if_neg ht.ne']
    unfold nrm
    rw [hr, hf d hd, hG, ← EReal.coe_mul, ← EReal.coe_mul, abs_coe, EReal.coe_le_coe_iff, abs_mul]
    refine mul_le_mul ?_ hM (abs_nonneg _) (by norm_num)
    have hs : 0 < Real.sqrt (S * (1 / 8192) + e) := Real.sqrt_pos.mpr ht
    rw [abs_mul, abs_inv, abs_of_pos hs, ← div_eq_mul_inv, div_le_iff₀ hs]
    have h91 : (91 : ℝ) * Real.sqrt (S * (1 / 8192) + e) = Real.sqrt (8281 * (S * (1 / 8192) + e)) := by
      rw [Real.sqrt_mul (by norm_num), show (8281 : ℝ) = 91 ^ 2 by norm_num, Real.sqrt_sq (by norm_num)]
    rw [h91]
    refine Real.abs_le_sqrt ?_
    rw [pow_two]
    nlinarith
  · push Not at hf
    obtain ⟨i, hi, hx⟩ := hf
    have hsq : h i * h i = ⊤ := by
      induction hv : h i with
      | bot => rfl
      | top => rfl
      | coe r => exact absurd hv (hx r)
    have hS : ∑ i ∈ Finset.range 8192, h i * h i = ⊤ := by
      refine top_le_iff.mp ?_
      rw [← hsq]
      exact Finset.single_le_sum (f := fun i => h i * h i) (fun i _ => sq_nonneg' _) (Finset.mem_range.mpr hi)
    have hr : rstd h = 0 := by
      unfold rstd
      rw [hS, bits_inv_rows, hE, EReal.top_mul_coe_of_pos (by norm_num), EReal.top_add_coe]
      rfl
    unfold nrm
    rw [hr, mul_zero, zero_mul, neg_zero, max_self]
    exact EReal.coe_le_coe_iff.mpr (by positivity : (0 : ℝ) ≤ 91 * 2 ^ 128)

/-- The value the scale is taken of lies below 2^126. -/
theorem amax_lt (h g : ℕ → EReal) (hg : ∀ d < 8192, max (g d) (-(g d)) ≤ bits 0x7F7FC99E#32) : amax h g < p2 126 := by
  obtain ⟨e, he, hle, hE⟩ := bits_inv_max
  unfold amax
  rw [hE]
  have h1 : ((Finset.range 8192).sup fun d => max (nrm h g d) (-(nrm h g d))) ≤ ((91 * 2 ^ 128 : ℝ) : EReal) :=
    Finset.sup_le fun d hd => nrm_le h g hg d (Finset.mem_range.mp hd)
  refine lt_of_le_of_lt (mul_le_mul_of_nonneg_right h1 (EReal.coe_nonneg.mpr he)) ?_
  unfold p2
  rw [← EReal.coe_mul, EReal.coe_lt_coe_iff]
  refine lt_of_le_of_lt (mul_le_mul_of_nonneg_left hle (by positivity)) ?_
  norm_num

/-- With the weights bounded, the kernel's scale and codes are the reference's. -/
theorem codes_eq (H : (⟨2, ![24576, 8192]⟩ : Shape).Idx → EReal) (g : (⟨2, ![1, 8192]⟩ : Shape).Idx → EReal)
    (hg : ∀ d < 8192, max (at2 g 0 d) (-(at2 g 0 d)) ≤ bits 0x7F7FC99E#32) : codesOf H g = rcodesOf H g := by
  funext y
  unfold codesOf codeOf rcodesOf
  rw [(scale_eq _ (amax_lt (at2 H (y 0).val) (at2 g 0) hg)).2]
theorem scales_eq (H : (⟨2, ![24576, 8192]⟩ : Shape).Idx → EReal) (g : (⟨2, ![1, 8192]⟩ : Shape).Idx → EReal)
    (hg : ∀ d < 8192, max (at2 g 0 d) (-(at2 g 0 d)) ≤ bits 0x7F7FC99E#32) : scalesOf H g = rscalesOf H g := by
  funext y
  unfold scalesOf rscalesOf
  rw [(scale_eq _ (amax_lt (at2 H (y 0).val) (at2 g 0) hg)).1]

end Cert.Spec

end
-- ==== Proof.RI.Pays.lean ====
/- What the reference's payloads are, entry by entry. -/
module

public import proofs.«01_k».proof.Proof.Gen.ReferenceIdeal.Skeleton
public import proofs.«01_k».proof.Proof.KI.Vec
public import proofs.«01_k».proof.Proof.KI.RefSpec
public import Idealize.ShloMosaic.Lib.MatmulPlain
public import Idealize.ShloMosaic.Lib.Pointwise.Index

@[expose] public section

set_option maxRecDepth 16384

noncomputable section

namespace Cert.ReferenceIdeal.Val

open Cert.ReferenceIdeal Cert.ReferenceIdeal.Gen Idealize.ShloMosaic Cert.Spec

/-- The activations times their groups' scales, read at an entry. -/
theorem deq_at (x : FVec Ideal S24576x7168 .fp8e4m3) (s : FVec Ideal S24576x56 .f32) (p : Fin 24576) (k : Fin 7168) :
    (shapeCast S24576x7168 (mulf (shapeCast S24576x56x128 (extf .bf16 x bitsLt_fp8e4m3_bf16) shapeCasts_S24576x7168_S24576x56x128)
        (broadcastTo S24576x56x128 (shapeCast S24576x56x1 (truncf .bf16 s bitsLt_bf16_f32) shapeCasts_S24576x56_S24576x56x1) broadcasts_S24576x56x1_S24576x56x128))
      shapeCasts_S24576x56x128_S24576x7168 (ValueIdx.ix2 p k) : EReal)
      = at2 (a := 24576) (b := 7168) x p.val k.val * at2 (a := 24576) (b := 56) s p.val (k.val / 128) := by
  have hk := k.isLt
  have hp := p.isLt
  let g : Fin 56 := ⟨k.val / 128, by omega⟩
  let l : Fin 128 := ⟨k.val % 128, by omega⟩
  have e1 : (at2 (a := 24576) (b := 7168) x p.val k.val : EReal) = x (ValueIdx.ix2 p k) := at2_of (a := 24576) (b := 7168) x (ValueIdx.ix2 p k) rfl rfl
  have e2 : (at2 (a := 24576) (b := 56) s p.val (k.val / 128) : EReal) = s (ValueIdx.ix2 p g) := at2_of (a := 24576) (b := 56) s (ValueIdx.ix2 p g) rfl rfl
  rw [e1, e2]
  refine (shapeCast_apply _ shapeCasts_S24576x56x128_S24576x7168 (ValueIdx.ix2 p k) (ix3 p g l) ?_).trans ?_
  · rw [Shape.rowMajor_val_three, Shape.rowMajor_val_two]
    show (p.val * 56 + k.val / 128) * 128 + k.val % 128 = p.val * 7168 + k.val
    omega
  · refine congrArg₂ (fun u v : EReal => u * v) ?_ ?_
    · refine shapeCast_apply (extf .bf16 x bitsLt_fp8e4m3_bf16) shapeCasts_S24576x7168_S24576x56x128 (ix3 p g l) (ValueIdx.ix2 p k) ?_
      rw [Shape.rowMajor_val_three, Shape.rowMajor_val_two]
      show p.val * 7168 + k.val = (p.val * 56 + k.val / 128) * 128 + k.val % 128
      omega
    · refine (broadcastTo_apply _ broadcasts_S24576x56x1_S24576x56x128 (ix3 p g l) (ix3 p g (0 : Fin 1)) ?_).trans ?_
      · intro a
        match a with
        | ⟨0, _⟩ => rfl
        | ⟨1, _⟩ => rfl
        | ⟨2, _⟩ => rfl
      · refine shapeCast_apply (truncf .bf16 s bitsLt_bf16_f32) shapeCasts_S24576x56_S24576x56x1 (ix3 p g (0 : Fin 1)) (ValueIdx.ix2 p g) ?_
        rw [Shape.rowMajor_val_three, Shape.rowMajor_val_two]
        show p.val * 56 + k.val / 128 = (p.val * 56 + k.val / 128) * 1 + 0
        omega

/-- The projection with its residual. -/
theorem pay4_eq (x : Vec Ideal S24576x7168 .fp8e4m3) (s : Vec Ideal S24576x56 .f32) (w : Vec Ideal S7168x8192 .fp8e4m3) (r : Vec Ideal S24576x8192 .bf16)
    (ws : Vec Ideal S1x8192 .f32) : k0_pay4 (F := Ideal) x s w r ws = projArr x s w ws r := by
  funext y
  obtain ⟨p, q, rfl⟩ : ∃ p q, y = ValueIdx.ix2 p q := ⟨y 0, y 1, ValueIdx.eq_ix2 y⟩
  have e0 : shapeCast S24576x7168 x shapeCasts_S24576x7168_S24576x7168 = x := shapeCast_self x _
  have e1 : shapeCast S24576x56 s shapeCasts_S24576x56_S24576x56 = s := shapeCast_self s _
  have e2 : shapeCast S24576x8192 r shapeCasts_S24576x8192_S24576x8192 = r := shapeCast_self r _
  have e3 : shapeCast S1x8192 ws shapeCasts_S1x8192_S1x8192 = ws := shapeCast_self ws _
  unfold k0_pay4
  dsimp only [matmul]
  rw [e0, e1, e2, e3]
  have hm := Ideal.matmul_plain_apply (M := 24576) (K := 7168) (N := 8192) (φ₁ := .bf16) (φ₂ := .bf16) none
    (shapeCast S24576x7168 (mulf (shapeCast S24576x56x128 (extf .bf16 x bitsLt_fp8e4m3_bf16) shapeCasts_S24576x7168_S24576x56x128)
        (broadcastTo S24576x56x128 (shapeCast S24576x56x1 (truncf .bf16 s bitsLt_bf16_f32) shapeCasts_S24576x56_S24576x56x1) broadcasts_S24576x56x1_S24576x56x128))
      shapeCasts_S24576x56x128_S24576x7168) (extf .bf16 w bitsLt_fp8e4m3_bf16) (constant S24576x8192 .f32 0x00000000#32) p q
  have hd : dot_S24576x7168_S7168x8192_S24576x8192_1_0_0_1_n_n = DotDims.plain 24576 7168 8192 := rfl
  have hz : (constant (F := Ideal) S24576x8192 .f32 0x00000000#32 (ValueIdx.ix2 p q) : EReal) = 0 := Ideal.ofBits_zero_f32
  rw [hz, zero_add] at hm
  rw [hd]
  unfold projArr proj
  refine congrArg₂ (fun u v : EReal => u + v) (at2_of (a := 24576) (b := 8192) r (ValueIdx.ix2 p q) rfl rfl).symm
    (congrArg₂ (fun u v : EReal => u * v) (hm.trans (Finset.sum_congr rfl fun k _ => congrArg₂ (fun u v : EReal => u * v) (deq_at x s p k) ?_)) ?_)
  · exact (at2_of (a := 7168) (b := 8192) w (ValueIdx.ix2 k q) rfl rfl).symm
  · exact (rowI (n := 24576) (m := 8192) ws broadcasts_S1x8192_S24576x8192 (ValueIdx.ix2 p q)).trans
      (at2_of (a := 1) (b := 8192) ws (ValueIdx.ix2 0 q) rfl rfl).symm

theorem inv_pow : Ideal.ieee 8 23 0x39000000#32 = ((1 / 8192 : ℝ) : EReal) ∧ Ideal.ieee 8 23 0x46000000#32 = ((8192 : ℝ) : EReal) := by
  constructor
  · simp [Ideal.ieee]
    rw [← EReal.coe_mul]
    exact congrArg Real.toEReal (by norm_num)
  · simp [Ideal.ieee]
    rw [← EReal.coe_mul]
    exact congrArg Real.toEReal (by norm_num)

/-- Dividing by 8192 is multiplying by its reciprocal. -/
theorem div_rows (x : EReal) : Ideal.div x (bits 0x46000000#32) = x * bits 0x39000000#32 := by
  have h1 : bits 0x46000000#32 = ((8192 : ℝ) : EReal) := inv_pow.2
  have h2 : bits 0x39000000#32 = ((1 / 8192 : ℝ) : EReal) := inv_pow.1
  rw [h1, h2, Ideal.div_coe (by norm_num)]

theorem sum_fin (f : ℕ → EReal) : ∑ l : Fin 8192, f l.val = ∑ d ∈ Finset.range 8192, f d := (Finset.sum_range f).symm

theorem sup_fin (f : ℕ → EReal) : (Finset.univ.sup fun l : Fin 8192 => f l.val) = (Finset.range 8192).sup f := by
  refine le_antisymm (Finset.sup_le fun l _ => Finset.le_sup (f := f) (Finset.mem_range.mpr l.isLt)) (Finset.sup_le fun d hd => ?_)
  exact Finset.le_sup (f := fun l : Fin 8192 => f l.val) (Finset.mem_univ ⟨d, Finset.mem_range.mp hd⟩)

/-- The normalised rows, over an array of rows. -/
def nArr (H : Vec Ideal S24576x8192 .bf16) (g : Vec Ideal S1x8192 .bf16) : FVec Ideal S24576x8192 .f32 :=
  fun y => nrm (at2 (a := 24576) (b := 8192) H (y 0).val) (at2 (a := 1) (b := 8192) g 0) (y 1).val

theorem pay5_eq (x : Vec Ideal S24576x7168 .fp8e4m3) (s : Vec Ideal S24576x56 .f32) (w : Vec Ideal S7168x8192 .fp8e4m3) (r : Vec Ideal S24576x8192 .bf16)
    (ws : Vec Ideal S1x8192 .f32) (g : Vec Ideal S1x8192 .bf16) : k0_pay5 (F := Ideal) x s w r ws g = nArr (projArr x s w ws r) g := by
  unfold k0_pay5
  rw [pay4_eq]
  generalize (projArr x s w ws r : Vec Ideal S24576x8192 .bf16) = H
  funext y
  obtain ⟨p, q, rfl⟩ : ∃ p q, y = ValueIdx.ix2 p q := ⟨y 0, y 1, ValueIdx.eq_ix2 y⟩
  have e3 : shapeCast S1x8192 g shapeCasts_S1x8192_S1x8192 = g := shapeCast_self g _
  dsimp only
  rw [e3]
  have hH : ∀ l : Fin 8192, (H (ValueIdx.ix2 p l) : EReal) = at2 (a := 24576) (b := 8192) H p.val l.val := fun l =>
    (at2_of (a := 24576) (b := 8192) H (ValueIdx.ix2 p l) rfl rfl).symm
  unfold nArr nrm
  refine congrArg₂ (fun u v : EReal => u * v) (congrArg₂ (fun u v : EReal => u * v) (hH q) ?_) ?_
  · refine (colI (n := 24576) (m := 8192) _ broadcasts_S24576x1_S24576x8192 (ValueIdx.ix2 p q)).trans ?_
    unfold rstd
    refine congrArg Ideal.rsqrt (congrArg₂ (fun u v : EReal => u + v) ?_ rfl)
    refine Eq.trans ?_ (div_rows _)
    refine congrArg (fun u => Ideal.div u (bits 0x46000000#32)) ?_
    refine (unitColI (n := 24576) _ shapeCasts_S24576_S24576x1 (ValueIdx.ix2 p 0)).trans ?_
    refine (laneSumI (n := 24576) (m := 8192) _ 0x00000000#32 reduces_S24576x8192_S24576 (.inl rfl) rfl (ValueIdx.ix1 p)).trans ?_
    refine Eq.trans (Finset.sum_congr rfl fun l _ => ?_) (sum_fin fun d => at2 (a := 24576) (b := 8192) H p.val d * at2 (a := 24576) (b := 8192) H p.val d)
    exact congrArg₂ (fun u v : EReal => u * v) (hH l) (hH l)
  · exact (rowI (n := 24576) (m := 8192) _ broadcasts_S1x8192_S24576x8192 (ValueIdx.ix2 p q)).trans
      (at2_of (a := 1) (b := 8192) g (ValueIdx.ix2 0 q) rfl rfl).symm

/-- The largest magnitudes of the rows. -/
def aCol (H : Vec Ideal S24576x8192 .bf16) (g : Vec Ideal S1x8192 .bf16) : FVec Ideal S24576x1 .f32 :=
  fun y => (Finset.range 8192).sup fun d =>
    max (nrm (at2 (a := 24576) (b := 8192) H (y 0).val) (at2 (a := 1) (b := 8192) g 0) d) (-(nrm (at2 (a := 24576) (b := 8192) H (y 0).val) (at2 (a := 1) (b := 8192) g 0) d))

theorem pay6_eq (x : Vec Ideal S24576x7168 .fp8e4m3) (s : Vec Ideal S24576x56 .f32) (w : Vec Ideal S7168x8192 .fp8e4m3) (r : Vec Ideal S24576x8192 .bf16)
    (ws : Vec Ideal S1x8192 .f32) (g : Vec Ideal S1x8192 .bf16) : k0_pay6 (F := Ideal) x s w r ws g = aCol (projArr x s w ws r) g := by
  unfold k0_pay6
  rw [pay5_eq]
  funext y
  refine (unitColI (n := 24576) _ shapeCasts_S24576_S24576x1 y).trans ?_
  refine (laneMaxI (n := 24576) (m := 8192) _ reduces_S24576x8192_S24576 (.inl rfl) rfl (ValueIdx.ix1 (y 0))).trans ?_
  exact sup_fin fun d => max (nrm (at2 (a := 24576) (b := 8192) (projArr x s w ws r) (y 0).val) (at2 (a := 1) (b := 8192) g 0) d) (-(nrm (at2 (a := 24576) (b := 8192) (projArr x s w ws r) (y 0).val) (at2 (a := 1) (b := 8192) g 0) d))

theorem iota254 (h : S24576x254.Iotas .tc 32 [1]) (j : S24576x254.Idx) : iota .tc S24576x254 32 [1] h j = BitVec.ofNat 32 (j 1).val :=
  iota_single_apply .tc S24576x254 32 1 h j

/-- The exponents of a column. -/
theorem pay1_at (a : FVec Ideal S24576x1 .f32) (y : S24576x1.Idx) :
    k0_pay1 (F := Ideal) a (Scalar.ofBits .f32 0x3B124925#32) y = expR (a y * bits 0x3B124925#32) := by
  obtain ⟨p, q, rfl⟩ : ∃ p q, y = ValueIdx.ix2 p q := ⟨y 0, y 1, ValueIdx.eq_ix2 y⟩
  have hq : q = 0 := Subsingleton.elim _ _
  subst hq
  unfold k0_pay1 expR
  dsimp only
  refine congrArg₂ (fun (u : BitVec 1) (v : BitVec 32) => Scalar.select u 0#32 v) rfl ?_
  refine (unitColI (n := 24576) _ shapeCasts_S24576_S24576x1 (ValueIdx.ix2 p 0)).trans ?_
  refine (laneMinII (n := 24576) (m := 254) _ reduces_S24576x254_S24576 rfl (ValueIdx.ix1 p)).trans ?_
  refine Finset.fold_congr fun l _ => ?_
  have hi : iota .tc S24576x254 32 [1] iota_S24576x254_d1_w32 (ValueIdx.ix2 p l) = BitVec.ofNat 32 l.val := iota254 _ _
  have hc := colI (n := 24576) (m := 254) (mulf (F := Ideal) a (broadcast S24576x1 (Scalar.ofBits .f32 0x3B124925#32))) broadcasts_S24576x1_S24576x254 (ValueIdx.ix2 p l)
  show Scalar.select (Ideal.cmp .olt (broadcastTo S24576x254 (mulf (F := Ideal) a (broadcast S24576x1 (Scalar.ofBits .f32 0x3B124925#32))) broadcasts_S24576x1_S24576x254 (ValueIdx.ix2 p l))
      (Ideal.exp2 (((IntOp.subi (iota .tc S24576x254 32 [1] iota_S24576x254_d1_w32 (ValueIdx.ix2 p l)) 125#32).toInt : ℝ) : EReal)))
      (IntOp.subi (iota .tc S24576x254 32 [1] iota_S24576x254_d1_w32 (ValueIdx.ix2 p l)) 125#32) 128#32 = _
  rw [hi]
  exact congrArg (fun u => Scalar.select (Ideal.cmp .olt u _) _ _) hc

theorem pay3_eq (H : Vec Ideal S24576x8192 .bf16) (g : Vec Ideal S1x8192 .bf16) :
    k0_pay3 (F := Ideal) (aCol H g) (Scalar.ofBits .f32 0x3B124925#32) = rscalesOf H g := by
  funext y
  unfold k0_pay3
  exact congrArg (fun z : BitVec 32 => Ideal.exp2 ((z.toInt : ℝ) : EReal)) (pay1_at (aCol H g) y)

theorem pay2_eq (H : Vec Ideal S24576x8192 .bf16) (g : Vec Ideal S1x8192 .bf16) :
    k0_pay2 (F := Ideal) (nArr H g) (aCol H g) (Scalar.ofBits .f32 0x3B124925#32) = rcodesOf H g := by
  funext y
  obtain ⟨p, q, rfl⟩ : ∃ p q, y = ValueIdx.ix2 p q := ⟨y 0, y 1, ValueIdx.eq_ix2 y⟩
  unfold k0_pay2 rcodesOf clip
  dsimp only
  refine congrArg (fun u : EReal => min (bits 0x43E00000#32) (max (bits 0xC3E00000#32) u)) ?_
  refine congrArg₂ (fun u v : EReal => u * v) rfl ?_
  refine (colI (n := 24576) (m := 8192) _ broadcasts_S24576x1_S24576x8192 (ValueIdx.ix2 p q)).trans ?_
  exact congrArg (fun z : BitVec 32 => Ideal.exp2 (bits 0x00000000#32 - ((z.toInt : ℝ) : EReal))) (pay1_at (aCol H g) (ValueIdx.ix2 p 0))

end Cert.ReferenceIdeal.Val

end
-- ==== Proof.RI.Value.lean ====
/- What the reference's results are after its run. -/
module

public import proofs.«01_k».proof.Proof.Gen.ReferenceIdeal.Value
public import proofs.«01_k».proof.Proof.RI.Pays
public import Idealize.ShloMosaic.Lib.Pipeline.ValueKit

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Spec
open Idealize.ShloMosaic.Pipeline (Dat)

variable (m : (ℓ : Loc nD τ sig) → Buf (Elt Ideal) ℓ) (ρ : Dev nD → PrngReg)

/-- The arrays the launch reads. -/
def arr0 (c : Dev nD) : Vec Ideal S24576x7168 .fp8e4m3 := V m c (Pipeline.arrRef spec0 0)
def arr1 (c : Dev nD) : Vec Ideal S24576x56 .f32 := V m c (Pipeline.arrRef spec0 1)
def arr2 (c : Dev nD) : Vec Ideal S7168x8192 .fp8e4m3 := V m c (Pipeline.arrRef spec0 2)
def arr3 (c : Dev nD) : Vec Ideal S1x8192 .f32 := V m c (Pipeline.arrRef spec0 3)
def arr4 (c : Dev nD) : Vec Ideal S24576x8192 .bf16 := V m c (Pipeline.arrRef spec0 4)
def arr5 (c : Dev nD) : Vec Ideal S1x8192 .bf16 := V m c (Pipeline.arrRef spec0 5)

def hArr (c : Dev nD) : Vec Ideal S24576x8192 .bf16 := projArr (arr0 m c) (arr1 m c) (arr2 m c) (arr3 m c) (arr4 m c)

theorem idx_all : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The one grid point's blocks are the whole arrays. -/
theorem blk0 (c : Dev nD) (t : Fin cfg0.N) : iblk m c 0 t = arr0 m c := by
  funext y
  unfold arr0
  refine congrArg (V m c (Pipeline.arrRef spec0 0)) (funext fun a => Fin.ext ?_)
  match a with
  | ⟨0, _⟩ => blk_simp [(idx_all t).1]
  | ⟨1, _⟩ => blk_simp [(idx_all t).1]
theorem blk1 (c : Dev nD) (t : Fin cfg0.N) : iblk m c 1 t = arr1 m c := by
  funext y
  unfold arr1
  refine congrArg (V m c (Pipeline.arrRef spec0 1)) (funext fun a => Fin.ext ?_)
  match a with
  | ⟨0, _⟩ => blk_simp [(idx_all t).2.1]
  | ⟨1, _⟩ => blk_simp [(idx_all t).2.1]
theorem blk2 (c : Dev nD) (t : Fin cfg0.N) : iblk m c 2 t = arr2 m c := by
  funext y
  unfold arr2
  refine congrArg (V m c (Pipeline.arrRef spec0 2)) (funext fun a => Fin.ext ?_)
  match a with
  | ⟨0, _⟩ => blk_simp [(idx_all t).2.2.1]
  | ⟨1, _⟩ => blk_simp [(idx_all t).2.2.1]
theorem blk3 (c : Dev nD) (t : Fin cfg0.N) : iblk m c 3 t = arr3 m c := by
  funext y
  unfold arr3
  refine congrArg (V m c (Pipeline.arrRef spec0 3)) (funext fun a => Fin.ext ?_)
  match a with
  | ⟨0, _⟩ => blk_simp [(idx_all t).2.2.2.1]
  | ⟨1, _⟩ => blk_simp [(idx_all t).2.2.2.1]
theorem blk4 (c : Dev nD) (t : Fin cfg0.N) : iblk m c 4 t = arr4 m c := by
  funext y
  unfold arr4
  refine congrArg (V m c (Pipeline.arrRef spec0 4)) (funext fun a => Fin.ext ?_)
  match a with
  | ⟨0, _⟩ => blk_simp [(idx_all t).2.2.2.2.1]
  | ⟨1, _⟩ => blk_simp [(idx_all t).2.2.2.2.1]
theorem blk5 (c : Dev nD) (t : Fin cfg0.N) : iblk m c 5 t = arr5 m c := by
  funext y
  unfold arr5
  refine congrArg (V m c (Pipeline.arrRef spec0 5)) (funext fun a => Fin.ext ?_)
  match a with
  | ⟨0, _⟩ => blk_simp [(idx_all t).2.2.2.2.2.1]
  | ⟨1, _⟩ => blk_simp [(idx_all t).2.2.2.2.2.1]

theorem z2 : (![0, 0] : Fin 2 → ℕ) = fun _ => 0 := by decide +kernel

theorem out6_eq (x0 : Vec Ideal S24576x7168 .fp8e4m3) (x1 : Vec Ideal S24576x56 .f32) (x2 : Vec Ideal S7168x8192 .fp8e4m3) (x3 : Vec Ideal S1x8192 .f32)
    (x4 : Vec Ideal S24576x8192 .bf16) (x5 : Vec Ideal S1x8192 .bf16) : out0_6 x0 x1 x2 x3 x4 x5 = projArr x0 x1 x2 x3 x4 := by
  unfold out0_6
  rw [View.canon_unit_zero z2, View.ld_unit_zero z2, View.ld_unit_zero z2, View.ld_unit_zero z2, View.ld_unit_zero z2, View.ld_unit_zero z2]
  exact pay4_eq x0 x1 x2 x4 x3

theorem out7_eq (x0 : Vec Ideal S24576x7168 .fp8e4m3) (x1 : Vec Ideal S24576x56 .f32) (x2 : Vec Ideal S7168x8192 .fp8e4m3) (x3 : Vec Ideal S1x8192 .f32)
    (x4 : Vec Ideal S24576x8192 .bf16) (x5 : Vec Ideal S1x8192 .bf16) : out0_7 x0 x1 x2 x3 x4 x5 = rcodesOf (projArr x0 x1 x2 x3 x4) x5 := by
  unfold out0_7 k0_pay7
  rw [View.canon_unit_zero z2, View.ld_unit_zero z2, View.ld_unit_zero z2, View.ld_unit_zero z2, View.ld_unit_zero z2, View.ld_unit_zero z2, View.ld_unit_zero z2]
  rw [pay5_eq, pay6_eq]
  exact pay2_eq _ _

theorem out8_eq (x0 : Vec Ideal S24576x7168 .fp8e4m3) (x1 : Vec Ideal S24576x56 .f32) (x2 : Vec Ideal S7168x8192 .fp8e4m3) (x3 : Vec Ideal S1x8192 .f32)
    (x4 : Vec Ideal S24576x8192 .bf16) (x5 : Vec Ideal S1x8192 .bf16) : out0_8 x0 x1 x2 x3 x4 x5 = rscalesOf (projArr x0 x1 x2 x3 x4) x5 := by
  unfold out0_8 k0_pay7
  rw [View.canon_unit_zero z2, View.ld_unit_zero z2, View.ld_unit_zero z2, View.ld_unit_zero z2, View.ld_unit_zero z2, View.ld_unit_zero z2, View.ld_unit_zero z2]
  rw [pay6_eq]
  exact pay3_eq _ _

theorem final6 (c : Dev nD) : (dats m 0 c).arrAt 6 cfg0.N = hArr m c := by
  refine (dats m 0 c).arrAt_eq_of_covers 6 _ (by decide +kernel) fun t hf y => ?_
  blk_simp
  rw [after0_6, out6_eq, blk0, blk1, blk2, blk3, blk4]
  refine congrArg (hArr m c) (funext fun a => Fin.ext ?_)
  match a with
  | ⟨0, _⟩ => blk_simp [(idx_all t).2.2.2.2.2.2.1]
  | ⟨1, _⟩ => blk_simp [(idx_all t).2.2.2.2.2.2.1]

theorem final7 (c : Dev nD) : (dats m 0 c).arrAt 7 cfg0.N = rcodesOf (hArr m c) (arr5 m c) := by
  refine (dats m 0 c).arrAt_eq_of_covers 7 _ (by decide +kernel) fun t hf y => ?_
  blk_simp
  rw [after0_7, out7_eq, blk0, blk1, blk2, blk3, blk4, blk5]
  refine congrArg (rcodesOf (hArr m c) (arr5 m c)) (funext fun a => Fin.ext ?_)
  match a with
  | ⟨0, _⟩ => blk_simp [(idx_all t).2.2.2.2.2.2.2.1]
  | ⟨1, _⟩ => blk_simp [(idx_all t).2.2.2.2.2.2.2.1]

theorem final8 (c : Dev nD) : (dats m 0 c).arrAt 8 cfg0.N = rscalesOf (hArr m c) (arr5 m c) := by
  refine (dats m 0 c).arrAt_eq_of_covers 8 _ (by decide +kernel) fun t hf y => ?_
  blk_simp
  rw [after0_8, out8_eq, blk0, blk1, blk2, blk3, blk4, blk5]
  refine congrArg (rscalesOf (hArr m c) (arr5 m c)) (funext fun a => Fin.ext ?_)
  match a with
  | ⟨0, _⟩ => blk_simp [(idx_all t).2.2.2.2.2.2.2.2]
  | ⟨1, _⟩ => blk_simp [(idx_all t).2.2.2.2.2.2.2.2]

end Cert.ReferenceIdeal.Val

end
-- ==== Proof.RI.Tie.lean ====
/- Both programs read the same arrays when their arguments agree, and the precondition bounds the weights. -/
module

public import proofs.«01_k».proof.Proof.KI.Rows
public import proofs.«01_k».proof.Proof.KI.Bound
public import proofs.«01_k».proof.Proof.RI.Value
public import proofs.«01_k».proof.Proof.Gen.Pre_gamma_finite
public import Idealize.ShloMosaic.Lib.Claim

@[expose] public section

set_option maxRecDepth 16384

noncomputable section

namespace Cert.Tie

open Idealize.ShloMosaic Idealize.ShloMosaic.TcCoe Idealize.SL.Sem Cert.Spec

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

theorem k0 : Cert.KernelIdeal.Run.arr0 m c = shapeCast Cert.KernelIdeal.S24576x7168 (m ((c.tc : Thread _ _).loc Cert.KernelIdeal.main_arg0)) Cert.KernelIdeal.Gen.shapeCasts_S4x6144x7168_S24576x7168 := by
  show Cert.KernelIdeal.Gen.V m c Cert.KernelIdeal.main_v0 = _
  entry_read
  rfl
theorem k1 : Cert.KernelIdeal.Run.arr1 m c = shapeCast Cert.KernelIdeal.S24576x56 (m ((c.tc : Thread _ _).loc Cert.KernelIdeal.main_arg1)) Cert.KernelIdeal.Gen.shapeCasts_S4x6144x56_S24576x56 := by
  show Cert.KernelIdeal.Gen.V m c Cert.KernelIdeal.main_v1 = _
  entry_read
  rfl
theorem k2 : Cert.KernelIdeal.Run.arr2 m c = m ((c.tc : Thread _ _).loc Cert.KernelIdeal.main_arg2) := Cert.KernelIdeal.Gen.V_main_arg2 m c
theorem k3 : Cert.KernelIdeal.Run.arr3 m c = shapeCast Cert.KernelIdeal.S1x8192 (m ((c.tc : Thread _ _).loc Cert.KernelIdeal.main_arg3)) Cert.KernelIdeal.Gen.shapeCasts_S8192_S1x8192 := by
  show Cert.KernelIdeal.Gen.V m c Cert.KernelIdeal.main_v2 = _
  entry_read
  rfl
theorem k4 : Cert.KernelIdeal.Run.arr4 m c = shapeCast Cert.KernelIdeal.S24576x8192 (m ((c.tc : Thread _ _).loc Cert.KernelIdeal.main_arg4)) Cert.KernelIdeal.Gen.shapeCasts_S4x6144x8192_S24576x8192 := by
  show Cert.KernelIdeal.Gen.V m c Cert.KernelIdeal.main_v3 = _
  entry_read
  rfl
theorem k5 : Cert.KernelIdeal.Run.arr5 m c = shapeCast Cert.KernelIdeal.S1x8192 (m ((c.tc : Thread _ _).loc Cert.KernelIdeal.main_arg5)) Cert.KernelIdeal.Gen.shapeCasts_S8192_S1x8192 := by
  show Cert.KernelIdeal.Gen.V m c Cert.KernelIdeal.main_v4 = _
  entry_read
  rfl
theorem r0 : Cert.ReferenceIdeal.Val.arr0 m' c = shapeCast Cert.ReferenceIdeal.S24576x7168 (m' ((c.tc : Thread _ _).loc Cert.ReferenceIdeal.main_arg0)) Cert.ReferenceIdeal.Gen.shapeCasts_S4x6144x7168_S24576x7168 := by
  show Cert.ReferenceIdeal.Gen.V m' c Cert.ReferenceIdeal.main_v0 = _
  entry_read
  rfl
theorem r1 : Cert.ReferenceIdeal.Val.arr1 m' c = shapeCast Cert.ReferenceIdeal.S24576x56 (m' ((c.tc : Thread _ _).loc Cert.ReferenceIdeal.main_arg1)) Cert.ReferenceIdeal.Gen.shapeCasts_S4x6144x56_S24576x56 := by
  show Cert.ReferenceIdeal.Gen.V m' c Cert.ReferenceIdeal.main_v1 = _
  entry_read
  rfl
theorem r2 : Cert.ReferenceIdeal.Val.arr2 m' c = m' ((c.tc : Thread _ _).loc Cert.ReferenceIdeal.main_arg2) := Cert.ReferenceIdeal.Gen.V_main_arg2 m' c
theorem r3 : Cert.ReferenceIdeal.Val.arr3 m' c = shapeCast Cert.ReferenceIdeal.S1x8192 (m' ((c.tc : Thread _ _).loc Cert.ReferenceIdeal.main_arg3)) Cert.ReferenceIdeal.Gen.shapeCasts_S8192_S1x8192 := by
  show Cert.ReferenceIdeal.Gen.V m' c Cert.ReferenceIdeal.main_v2 = _
  entry_read
  rfl
theorem r4 : Cert.ReferenceIdeal.Val.arr4 m' c = shapeCast Cert.ReferenceIdeal.S24576x8192 (m' ((c.tc : Thread _ _).loc Cert.ReferenceIdeal.main_arg4)) Cert.ReferenceIdeal.Gen.shapeCasts_S4x6144x8192_S24576x8192 := by
  show Cert.ReferenceIdeal.Gen.V m' c Cert.ReferenceIdeal.main_v3 = _
  entry_read
  rfl
theorem r5 : Cert.ReferenceIdeal.Val.arr5 m' c = shapeCast Cert.ReferenceIdeal.S1x8192 (m' ((c.tc : Thread _ _).loc Cert.ReferenceIdeal.main_arg5)) Cert.ReferenceIdeal.Gen.shapeCasts_S8192_S1x8192 := by
  show Cert.ReferenceIdeal.Gen.V m' c Cert.ReferenceIdeal.main_v4 = _
  entry_read
  rfl

/-- From equal arguments the two launches read equal arrays. -/
theorem arr0_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Val.arr0 m' c = Cert.KernelIdeal.Run.arr0 m c := by
  rw [r0, k0, h]
theorem arr1_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Val.arr1 m' c = Cert.KernelIdeal.Run.arr1 m c := by
  rw [r1, k1, h]
theorem arr2_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Val.arr2 m' c = Cert.KernelIdeal.Run.arr2 m c := by
  rw [r2, k2, h]
theorem arr3_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Val.arr3 m' c = Cert.KernelIdeal.Run.arr3 m c := by
  rw [r3, k3, h]
theorem arr4_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Val.arr4 m' c = Cert.KernelIdeal.Run.arr4 m c := by
  rw [r4, k4, h]
theorem arr5_eq (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Val.arr5 m' c = Cert.KernelIdeal.Run.arr5 m c := by
  rw [r5, k5, h]

theorem hArr_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Val.hArr m' c = Cert.KernelIdeal.Run.hArr m c := by
  unfold Cert.ReferenceIdeal.Val.hArr Cert.KernelIdeal.Run.hArr
  rw [arr0_eq m m' c h0, arr1_eq m m' c h1, arr2_eq m m' c h2, arr3_eq m m' c h3, arr4_eq m m' c h4]

/-- The precondition at one weight. -/
theorem gamma_at (x0 : FVec Ideal Cert.Pre_gamma_finite.S4x6144x7168 .fp8e4m3) (x1 : FVec Ideal Cert.Pre_gamma_finite.S4x6144x56 .f32)
    (x2 : FVec Ideal Cert.Pre_gamma_finite.S7168x8192 .fp8e4m3) (x3 : FVec Ideal Cert.Pre_gamma_finite.S8192 .f32)
    (x4 : FVec Ideal Cert.Pre_gamma_finite.S4x6144x8192 .bf16) (x5 : FVec Ideal Cert.Pre_gamma_finite.S8192 .bf16)
    (h : Cert.Pre_gamma_finite.fn (F := Ideal) x0 x1 x2 x3 x4 x5 = fun _ => 1#1) (j : Cert.Pre_gamma_finite.S8192.Idx) :
    (max (x5 j) (-(x5 j)) : EReal) ≤ bits 0x7F7FC99E#32 := by
  have h1 := congrFun h j
  have h2 : BitVec.ofBool (decide ((max (x5 j) (-(x5 j)) : EReal) ≤ bits 0x7F7FC99E#32)) = 1#1 := h1
  by_contra hc
  rw [decide_eq_false hc] at h2
  exact absurd h2 (by decide)

/-- The precondition bounds the weights that the launch reads. -/
theorem gamma_le (h : Cert.Pre_gamma_finite.fn (F := Ideal) (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)) (m ((c.tc : Thread _ _).loc Cert.KernelIdeal.main_arg4))
      (m ((c.tc : Thread _ _).loc Cert.KernelIdeal.main_arg5)) = fun _ => 1#1) (d : ℕ) (hd : d < 8192) :
    max (at2 (a := 1) (b := 8192) (Cert.KernelIdeal.Run.arr5 m c) 0 d) (-(at2 (a := 1) (b := 8192) (Cert.KernelIdeal.Run.arr5 m c) 0 d)) ≤ bits 0x7F7FC99E#32 := by
  have e1 := at2_of (a := 1) (b := 8192) (Cert.KernelIdeal.Run.arr5 m c) (ValueIdx.ix2 0 ⟨d, hd⟩) (r := 0) (d := d) rfl rfl
  have e2 : Cert.KernelIdeal.Run.arr5 m c (ValueIdx.ix2 0 ⟨d, hd⟩) = m ((c.tc : Thread _ _).loc Cert.KernelIdeal.main_arg5) (ValueIdx.ix1 ⟨d, hd⟩) := by
    rw [k5]
    refine shapeCast_apply _ Cert.KernelIdeal.Gen.shapeCasts_S8192_S1x8192 (ValueIdx.ix2 0 ⟨d, hd⟩) (ValueIdx.ix1 ⟨d, hd⟩) ?_
    rw [Shape.rowMajor_val_one, Shape.rowMajor_val_two]
    show d = 0 * 8192 + d
    omega
  rw [e1, e2]
  exact gamma_at _ _ _ _ _ _ h (ValueIdx.ix1 ⟨d, hd⟩)

end Cert.Tie

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_gamma_finite
public import proofs.«01_k».proof.Proof.KF.Frame
public import proofs.«01_k».proof.Proof.KI.Results
public import proofs.«01_k».proof.Proof.RI.Tie
public import Idealize.ShloMosaic.Adequacy
public import Idealize.ShloMosaic.Init

@[expose] public section

noncomputable section

namespace Cert.Proof

open Idealize.ShloMosaic Idealize.SL.Sem Cert.Kernel

/-- The kernel and the reference compute the same three arrays. -/
theorem algebraic : algebraic_KernelIdeal_ReferenceIdeal_pre_gamma_finite := by
  intro m g m' g' hP hA
  refine ⟨fun c => Cert.KernelIdeal.Run.hArr m c, fun c => Cert.KernelIdeal.Run.codeArr m c, fun c => Cert.KernelIdeal.Run.scaleArr m c, ?_, ?_⟩
  · refine θ_run_mono (θ_run_and (Cert.KernelIdeal.Val.run m g) (Cert.KernelIdeal.Val.unchanged m g)) fun r h c => ?_
    exact ⟨(h.1 c).1, (h.1 c).2.1, (h.1 c).2.2, h.2 c⟩
  · refine θ_run_mono (Cert.ReferenceIdeal.Value.run_blocks m' g') fun r h c => ?_
    obtain ⟨b6, b7, b8, ha⟩ := h c
    obtain ⟨a0, a1, a2, a3, a4, a5⟩ := hA c
    have eH := Cert.Tie.hArr_eq m m' c a0 a1 a2 a3 a4
    have eG := Cert.Tie.arr5_eq m m' c a5
    have hg := Cert.Tie.gamma_le m c (hP c)
    refine ⟨b6.trans ((Cert.ReferenceIdeal.Val.final6 m' c).trans eH), b7.trans ((Cert.ReferenceIdeal.Val.final7 m' c).trans ?_),
      b8.trans ((Cert.ReferenceIdeal.Val.final8 m' c).trans ?_), ha⟩
    · rw [eH, eG]
      exact (Cert.Spec.codes_eq _ _ hg).symm
    · rw [eH, eG]
      exact (Cert.Spec.scales_eq _ _ hg).symm

/-- Every claim. -/
theorem claim : Cert.Claim := ⟨Cert.Kernel.Gen.facts, Cert.KernelIdeal.Gen.facts, Cert.ReferenceIdeal.Gen.facts, Cert.Pre_gamma_finite.Gen.facts,
  fun m g _ => Cert.Kernel.Run.frame m g, fun m g _ => Cert.KernelIdeal.Val.frame m g, fun m g _ => Cert.KernelIdeal.Val.frame m g,
  fun m g _ => Cert.ReferenceIdeal.Gen.frame m g, fun m g _ => Cert.ReferenceIdeal.Gen.frame m g, trivial, algebraic⟩

end Cert.Proof

end
